-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 256]⟩ ⟨2, ![1024, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 1024]⟩ ⟨2, ![1024, 1024]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 1024]⟩ ⟨2, ![1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x256 : Shape := ⟨2, ![1024, 256]⟩
abbrev S256x1024 : Shape := ⟨2, ![256, 1024]⟩
abbrev S12x256x256 : Shape := ⟨3, ![12, 256, 256]⟩
abbrev S12 : Shape := ⟨1, ![12]⟩
abbrev S_ : Shape := ⟨0, ![]⟩
abbrev S256x256 : Shape := ⟨2, ![256, 256]⟩
abbrev S1x256x256 : Shape := ⟨3, ![1, 256, 256]⟩
abbrev S1 : Shape := ⟨1, ![1]⟩

abbrev nBuf : Space → Nat
  | .hbm => 3
  | .vmem => 5
  | .smem => 0
  | _ => 0

abbrev bufTy : (tb : Table) → Fin (tcTables nBuf tb) → BufTy
  | .hbm, ⟨0, _⟩ => ⟨S1024x256, .bf16⟩
  | .hbm, ⟨1, _⟩ => ⟨S256x1024, .bf16⟩
  | .hbm, ⟨2, _⟩ => ⟨S256x1024, .f32⟩
  | .local _ .vmem, ⟨0, _⟩ => ⟨S1024x256, .bf16⟩
  | .local _ .vmem, ⟨1, _⟩ => ⟨S256x1024, .bf16⟩
  | .local _ .vmem, ⟨2, _⟩ => ⟨S256x1024, .f32⟩
  | .local _ .vmem, ⟨3, _⟩ => ⟨S12x256x256, .bf16⟩
  | .local _ .vmem, ⟨4, _⟩ => ⟨S12x256x256, .bf16⟩
  | _, _ => ⟨S1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_7 : BitVec 32 := 1#32
  let v17 : BitVec 32 := Scalar.muli v3 c1_i32_7
  let v18 : BitVec 32 := Scalar.addi c0_i32_8 v17
  v18.toNat
def k0_dev2 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_10 : BitVec 32 := 1#32
  let v19 : BitVec 32 := Scalar.muli v4 c1_i32_10
  let v20 : BitVec 32 := Scalar.addi c0_i32_11 v19
  v20.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_1 : BitVec 32 := 4#32
  let c0_i32 : BitVec 32 := 0#32
  let v6 : BitVec 1 := Scalar.cmpi .eq c4_i32_1 c0_i32
  let c1_i32_2 : BitVec 32 := 1#32
  let v7 : BitVec 32 := Scalar.select v6 c1_i32_2 c4_i32_1
  let v8 : BitVec 32 := Scalar.remsi v5 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let c256_i32 : BitVec 32 := 256#32
  let v21 : BitVec 32 := Scalar.muli v15 c256_i32
  let v22 : Index := Scalar.indexCast v21
  let c0 : Index := 0#32
  ![v22.toNat, 0]
def k0_dev3 (d0 : Dev nD) : Nat :=
  let c0_i32_29 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_28 : BitVec 32 := 1#32
  let v43 : BitVec 32 := Scalar.muli v3 c1_i32_28
  let v44 : BitVec 32 := Scalar.addi c0_i32_29 v43
  v44.toNat
def k0_dev4 (d0 : Dev nD) : Nat :=
  let c0_i32_38 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_37 : BitVec 32 := 1#32
  let v53 : BitVec 32 := Scalar.muli v4 c1_i32_37
  let v54 : BitVec 32 := Scalar.addi c0_i32_38 v53
  v54.toNat
def k0_dev5 (d0 : Dev nD) : Nat :=
  let c0_i32_54 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_53 : BitVec 32 := 1#32
  let v74 : BitVec 32 := Scalar.muli v3 c1_i32_53
  let v75 : BitVec 32 := Scalar.addi c0_i32_54 v74
  v75.toNat
def k0_dev6 (d0 : Dev nD) : Nat :=
  let c0_i32_69 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_68 : BitVec 32 := 1#32
  let v95 : BitVec 32 := Scalar.muli v4 c1_i32_68
  let v96 : BitVec 32 := Scalar.addi c0_i32_69 v95
  v96.toNat
def k0_off2 (d0 : Dev nD) : Fin 2 → Nat :=
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c256_i32_74 : BitVec 32 := 256#32
  let v105 : BitVec 32 := Scalar.muli v3 c256_i32_74
  let v106 : Index := Scalar.indexCast v105
  let c0_75 : Index := 0#32
  ![v106.toNat, 0]
def k0_dev7 (d0 : Dev nD) : Nat :=
  let c0_i32_86 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_85 : BitVec 32 := 1#32
  let v116 : BitVec 32 := Scalar.muli v3 c1_i32_85
  let v117 : BitVec 32 := Scalar.addi c0_i32_86 v116
  v117.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c256_i32_91 : BitVec 32 := 256#32
  let v126 : BitVec 32 := Scalar.muli v4 c256_i32_91
  let v127 : Index := Scalar.indexCast v126
  let c0_92 : Index := 0#32
  ![v127.toNat, 0]
def k0_dev8 (d0 : Dev nD) : Nat :=
  let c0_i32_102 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_101 : BitVec 32 := 1#32
  let v137 : BitVec 32 := Scalar.muli v4 c1_i32_101
  let v138 : BitVec 32 := Scalar.addi c0_i32_102 v137
  v138.toNat
def k0_dev9 (d0 : Dev nD) : Nat :=
  let c0_i32_119 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_118 : BitVec 32 := 1#32
  let v158 : BitVec 32 := Scalar.muli v3 c1_i32_118
  let v159 : BitVec 32 := Scalar.addi c0_i32_119 v158
  v159.toNat
def k0_dev10 (d0 : Dev nD) : Nat :=
  let c0_i32_135 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_134 : BitVec 32 := 1#32
  let v179 : BitVec 32 := Scalar.muli v4 c1_i32_134
  let v180 : BitVec 32 := Scalar.addi c0_i32_135 v179
  v180.toNat
def k0_dev11 (d0 : Dev nD) : Nat :=
  let c0_i32_179 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_178 : BitVec 32 := 1#32
  let v233 : BitVec 32 := Scalar.muli v4 c1_i32_178
  let v234 : BitVec 32 := Scalar.addi c0_i32_179 v233
  v234.toNat
def k0_dev12 (d0 : Dev nD) : Nat :=
  let c0_i32_204 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_203 : BitVec 32 := 1#32
  let v259 : BitVec 32 := Scalar.muli v3 c1_i32_203
  let v260 : BitVec 32 := Scalar.addi c0_i32_204 v259
  v260.toNat
def k0_dev13 (d0 : Dev nD) : Nat :=
  let c0_i32_228 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_227 : BitVec 32 := 1#32
  let v285 : BitVec 32 := Scalar.muli v4 c1_i32_227
  let v286 : BitVec 32 := Scalar.addi c0_i32_228 v285
  v286.toNat
def k0_dev14 (d0 : Dev nD) : Nat :=
  let c0_i32_252 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_251 : BitVec 32 := 1#32
  let v311 : BitVec 32 := Scalar.muli v3 c1_i32_251
  let v312 : BitVec 32 := Scalar.addi c0_i32_252 v311
  v312.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_257 : BitVec 32 := 256#32
  let v321 : BitVec 32 := Scalar.muli v2 c256_i32_257
  let v322 : Index := Scalar.indexCast v321
  let c0_258 : Index := 0#32
  ![v322.toNat, 0]
abbrev stage0_0 : Fin 1 → Memref sig .tc .vmem S1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .bf16⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.KernelIdeal.Slots.lean ====
/-
The four devices' neighbours, the twelve send slots and the twelve landing slots of `KernelIdeal`, their semaphores, and
what each slot holds once it is filled.

Device `c` has two neighbours: `xp c` and `yp c`. Slots 0–5 travel to and from `xp c`, slots 6–11 to and from `yp c`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Ring

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The launch state: the given memory, all counters at zero, the given generator registers. -/
def s₀ : MemSt nD τ sig (Elt F) := ⟨m, fun _ => 0, ρ⟩

/-! ## Neighbours -/

set_option backward.proofsInPublic true in
/-- The neighbour across the first axis. -/
def xp (c : Dev nD) : Dev nD := ⟨3 - c.val, by have := c.isLt; simp only [nD] at *; omega⟩
set_option backward.proofsInPublic true in
/-- The neighbour across the second axis. -/
def yp (c : Dev nD) : Dev nD := ⟨c.val + 1 - 2 * (c.val % 2), by have := c.isLt; simp only [nD] at *; omega⟩

/-- The slots of the first axis. -/
abbrev onX (k : Fin 12) : Bool := decide (k.val < 6)
/-- Slot `k`'s partner of device `c`. -/
def peer (c : Dev nD) (k : Fin 12) : Dev nD := if onX k then xp c else yp c

theorem xp_xp (c : Dev nD) : xp (xp c) = c := by revert c; decide
theorem yp_yp (c : Dev nD) : yp (yp c) = c := by revert c; decide
theorem xp_ne_yp (c : Dev nD) : xp c ≠ yp c := by revert c; decide
theorem peer_peer (c : Dev nD) (k : Fin 12) : peer (peer c k) k = c := by revert c k; decide

def xpE : Dev nD ≃ Dev nD := ⟨xp, xp, xp_xp, xp_xp⟩
def ypE : Dev nD ≃ Dev nD := ⟨yp, yp, yp_yp, yp_yp⟩
def peerE (k : Fin 12) : Dev nD ≃ Dev nD := ⟨(peer · k), (peer · k), (peer_peer · k), (peer_peer · k)⟩

theorem dev1_eq : ∀ c : Dev nD, (⟨k0_dev1 c, k0_dev1_lt c⟩ : Dev nD) = xp c := by decide +kernel
theorem dev2_eq : ∀ c : Dev nD, (⟨k0_dev2 c, k0_dev2_lt c⟩ : Dev nD) = yp c := by decide +kernel
theorem dev3_eq : ∀ c : Dev nD, (⟨k0_dev3 c, k0_dev3_lt c⟩ : Dev nD) = peer c 0 := by decide +kernel
theorem dev4_eq : ∀ c : Dev nD, (⟨k0_dev4 c, k0_dev4_lt c⟩ : Dev nD) = peer c 6 := by decide +kernel
theorem dev5_eq : ∀ c : Dev nD, (⟨k0_dev5 c, k0_dev5_lt c⟩ : Dev nD) = peer c 1 := by decide +kernel
theorem dev6_eq : ∀ c : Dev nD, (⟨k0_dev6 c, k0_dev6_lt c⟩ : Dev nD) = peer c 7 := by decide +kernel
theorem dev7_eq : ∀ c : Dev nD, (⟨k0_dev7 c, k0_dev7_lt c⟩ : Dev nD) = peer c 2 := by decide +kernel
theorem dev8_eq : ∀ c : Dev nD, (⟨k0_dev8 c, k0_dev8_lt c⟩ : Dev nD) = peer c 8 := by decide +kernel
theorem dev9_eq : ∀ c : Dev nD, (⟨k0_dev9 c, k0_dev9_lt c⟩ : Dev nD) = peer c 3 := by decide +kernel
theorem dev10_eq : ∀ c : Dev nD, (⟨k0_dev10 c, k0_dev10_lt c⟩ : Dev nD) = peer c 9 := by decide +kernel
theorem dev11_eq : ∀ c : Dev nD, (⟨k0_dev11 c, k0_dev11_lt c⟩ : Dev nD) = peer c 10 := by decide +kernel
theorem dev12_eq : ∀ c : Dev nD, (⟨k0_dev12 c, k0_dev12_lt c⟩ : Dev nD) = peer c 4 := by decide +kernel
theorem dev13_eq : ∀ c : Dev nD, (⟨k0_dev13 c, k0_dev13_lt c⟩ : Dev nD) = peer c 11 := by decide +kernel
theorem dev14_eq : ∀ c : Dev nD, (⟨k0_dev14 c, k0_dev14_lt c⟩ : Dev nD) = peer c 5 := by decide +kernel

/-! ## Slots and semaphores -/

theorem inbB (k : Fin 12) : ∀ a, (![k.val, 0, 0] : Fin 3 → ℕ) a + S1x256x256.size a ≤ S12x256x256.size a := by revert k; decide
theorem inbS (k : Fin 12) : ∀ a, (![k.val] : Fin 1 → ℕ) a + S1.size a ≤ S12.size a := by revert k; decide

/-- The box of slot `k` in a buffer of twelve 256×256 blocks. -/
abbrev rk (k : Fin 12) : Rect S12x256x256 := Rect.unit (s := S12x256x256) ![k.val, 0, 0] S1x256x256.size (inbB k)

/-- The buffers of outgoing and of arriving blocks, whole. -/
abbrev outB : Memref sig .tc .vmem S12x256x256 .bf16 := Memref.whole cc0_scratch0
abbrev insB : Memref sig .tc .vmem S12x256x256 .bf16 := Memref.whole cc0_scratch1

/-- Outgoing slot `k`, arriving slot `k`. -/
abbrev outM (k : Fin 12) : Memref sig .tc .vmem S256x256 .bf16 := (outB.slice (rk k) (fun _ => rfl)).squeeze S256x256 squeezes_S1x256x256_S256x256
abbrev insM (k : Fin 12) : Memref sig .tc .vmem S256x256 .bf16 := (insB.slice (rk k) (fun _ => rfl)).squeeze S256x256 squeezes_S1x256x256_S256x256

/-- The send and the receive semaphore of slot `k`; the runtime's barrier semaphore. -/
abbrev sendS (k : Fin 12) : DmaSem sig := ((cc0_scratch2.slice (Rect.unit (s := S12) ![k.val] S1.size (inbS k))).squeeze S_ squeezes_S1_S_).sem
abbrev recvS (k : Fin 12) : DmaSem sig := ((cc0_scratch3.slice (Rect.unit (s := S12) ![k.val] S1.size (inbS k))).squeeze S_ squeezes_S1_S_).sem
abbrev barS : Sem sig := (SemArray.scalar (sig.barrier 0 rfl) : Sems sig S_).sem

abbrev barCell (c : Dev nD) : GSem nD τ sig := ((c : Thread nD τ), .reg barS)
abbrev sendCell (c : Dev nD) (k : Fin 12) : GSem nD τ sig := ((c : Thread nD τ), .dma (sendS k))
abbrev recvCell (c : Dev nD) (k : Fin 12) : GSem nD τ sig := ((c : Thread nD τ), .dma (recvS k))

/-- The kernel's own semaphores: `(false, k)` the send semaphore of slot `k`, `(true, k)` its receive semaphore. -/
abbrev osem : Bool × Fin 12 → SemLoc sig := fun | (false, k) => .dma (sendS k) | (true, k) => .dma (recvS k)
/-- All semaphores of the protocol: `none` the barrier. -/
abbrev csem : Option (Bool × Fin 12) → SemLoc sig := fun | none => .reg barS | some bk => osem bk
abbrev kcell (ck : Dev nD × Option (Bool × Fin 12)) : GSem nD τ sig := ((ck.1 : Thread nD τ), csem ck.2)

/-- What a semaphore is for. -/
inductive Role | barrier | send (k : Fin 12) | recv (k : Fin 12) | other
deriving DecidableEq

/-- The role of each semaphore. -/
def role : SemLoc sig → Role
  | .reg s => if s = barS then .barrier else .other
  | .dma q => if q.val < 3 then .other else if h : q.val < 15 then .send ⟨q.val - 3, by omega⟩
      else .recv ⟨q.val - 15, by have := q.isLt; simp only [sig] at *; omega⟩

theorem role_bar : role (.reg barS) = .barrier := by decide
theorem role_send : ∀ k, role (.dma (sendS k)) = .send k := by decide
theorem role_recv : ∀ k, role (.dma (recvS k)) = .recv k := by decide

/-- The credit one block's transfer adds. -/
abbrev N : ℕ := (insM 0).view.dmaCredit
theorem N_pos : 0 < N := View.dmaCredit_pos _ (by decide)
theorem credit_ins (k : Fin 12) : (insM k).view.dmaCredit = N := rfl
theorem credit_out (k : Fin 12) : (outM k).view.dmaCredit = N := rfl

/-! ## Contents -/

/-- Device `c`'s staged operands. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

abbrev xM : Memref sig .tc .vmem S1024x256 .bf16 := Memref.whole cc0_stg0_0
abbrev wM : Memref sig .tc .vmem S256x1024 .bf16 := Memref.whole cc0_stg1_0
abbrev oM : Memref sig .tc .vmem S256x1024 .f32 := Memref.whole cc0_stg2_0

/-- The 256 rows of `c`'s left operand starting at row `off 0`. -/
def xAt (c : Dev nD) (off : Fin 2 → ℕ) (h : ∀ a, off a + S256x256.size a ≤ S1024x256.size a) : Vec F S256x256 .bf16 :=
  xM.view.readAt (Elt F) (Rect.unit (s := S1024x256) off S256x256.size h).toLoadRect (xstg m ρ c)
/-- The 256 columns of `c`'s right operand starting at column `off 1`. -/
def wAt (c : Dev nD) (off : Fin 2 → ℕ) (h : ∀ a, off a + S256x256.size a ≤ S256x1024.size a) : Vec F S256x256 .bf16 :=
  wM.view.readAt (Elt F) (Rect.unit (s := S256x1024) off S256x256.size h).toLoadRect (wstg m ρ c)

/-- The rows meant for the device diagonally opposite, for `xp c`, for `yp c`, and `c`'s own. -/
def xd (c : Dev nD) : Vec F S256x256 .bf16 := xAt m ρ c (k0_off1 c) (k0_off1_inb c)
def xx (c : Dev nD) : Vec F S256x256 .bf16 := xAt m ρ c (k0_off2 c) (k0_off2_inb c)
def xy (c : Dev nD) : Vec F S256x256 .bf16 := xAt m ρ c (k0_off3 c) (k0_off3_inb c)
def xm (c : Dev nD) : Vec F S256x256 .bf16 := xAt m ρ c (k0_off4 c) (k0_off4_inb c)
/-- The four column quarters. -/
def w0 (c : Dev nD) : Vec F S256x256 .bf16 := wAt m ρ c ![0, 0] inb_S256x1024_S256x256_0_0
def w1 (c : Dev nD) : Vec F S256x256 .bf16 := wAt m ρ c ![0, 256] inb_S256x1024_S256x256_0_256
def w2 (c : Dev nD) : Vec F S256x256 .bf16 := wAt m ρ c ![0, 512] inb_S256x1024_S256x256_0_512
def w3 (c : Dev nD) : Vec F S256x256 .bf16 := wAt m ρ c ![0, 768] inb_S256x1024_S256x256_0_768

/-- What slot `k` of device `c` carries when it is a plain block product (slots 4, 5, 10, 11 are not: see `sentV`). -/
def sent1 (c : Dev nD) : Fin 12 → FVec F S1x256x256 .bf16
  | 0 => k0_pay1 (xd m ρ c) (w0 m ρ c)
  | 1 => k0_pay3 (xd m ρ c) (w1 m ρ c)
  | 2 => k0_pay6 (xx m ρ c) (w0 m ρ c)
  | 3 => k0_pay10 (k0_pay8 (xx m ρ c)) (k0_pay9 (w1 m ρ c))
  | 6 => k0_pay2 (xd m ρ c) (w2 m ρ c)
  | 7 => k0_pay5 (k0_pay4 (xd m ρ c) (w3 m ρ c))
  | 8 => k0_pay7 (xy m ρ c) (w2 m ρ c)
  | _ => k0_pay11 (xy m ρ c) (w3 m ρ c)

/-- What slot `k` of device `c` carries: a block product, or for slots 4, 5, 10, 11 a block product plus what arrived in
    an earlier slot. -/
def sentV (c : Dev nD) : Fin 12 → FVec F S1x256x256 .bf16
  | 4 => k0_pay17 (k0_pay14 (xx m ρ c) (w2 m ρ c)) (sent1 m ρ (peer c 6) 6)
  | 5 => k0_pay19 (k0_pay15 (xx m ρ c) (w3 m ρ c)) (sent1 m ρ (peer c 7) 7)
  | 10 => k0_pay16 (k0_pay12 (xy m ρ c) (w0 m ρ c)) (sent1 m ρ (peer c 0) 0)
  | 11 => k0_pay18 (k0_pay13 (xy m ρ c) (w1 m ρ c)) (sent1 m ρ (peer c 1) 1)
  | k => sent1 m ρ c k

/-- What arrives in slot `k` of device `c`: what its partner sent there. -/
def recvV (c : Dev nD) (k : Fin 12) : FVec F S1x256x256 .bf16 := sentV m ρ (peer c k) k

/-- The whole buffer of outgoing blocks when every slot is filled. -/
def outsBuf (c : Dev nD) : (cc0_scratch0 : Ref sig .tc).ty.Contents (Elt F) := fun i =>
  sentV m ρ c (i (0 : Fin 3)) (fun | (0 : Fin 3) => (0 : Fin 1) | (1 : Fin 3) => i (1 : Fin 3) | (2 : Fin 3) => i (2 : Fin 3))
/-- The whole buffer of arriving blocks when every slot is filled. -/
def insBuf (c : Dev nD) : (cc0_scratch1 : Ref sig .tc).ty.Contents (Elt F) := fun i =>
  outsBuf m ρ (peer c (i (0 : Fin 3))) i

/-- The four quarters of the result on device `c`. -/
def res0 (c : Dev nD) : FVec F S256x256 .f32 := k0_pay26 (k0_pay21 (k0_pay20 (xm m ρ c) (w0 m ρ c)) (recvV m ρ c 2)) (recvV m ρ c 10)
def res2 (c : Dev nD) : FVec F S256x256 .f32 := k0_pay27 (k0_pay22 (xm m ρ c) (w2 m ρ c) (recvV m ρ c 8)) (recvV m ρ c 4)
def res1 (c : Dev nD) : FVec F S256x256 .f32 := k0_pay28 (k0_pay23 (xm m ρ c) (w1 m ρ c) (recvV m ρ c 3)) (recvV m ρ c 11)
def res3 (c : Dev nD) : FVec F S256x256 .f32 := k0_pay29 (k0_pay25 (k0_pay24 (xm m ρ c) (w3 m ρ c)) (recvV m ρ c 9)) (recvV m ρ c 5)

/-! ## Ownership of a slot -/

/-- Outgoing slot `k` of device `c` with contents `f` (read off a whole buffer). -/
def outPts (c : Dev nD) (k : Fin 12) (f : Buf (Elt F) ((outM k).view.loc (c : Thread nD τ))) : sProp 𝕄 :=
  (outM k).view.loc (c : Thread nD τ) ↦[(outM k).view.set]{fullShare} f
/-- Arriving slot `k` of device `c` with contents `f`. -/
def insPts (c : Dev nD) (k : Fin 12) (f : Buf (Elt F) ((insM k).view.loc (c : Thread nD τ))) : sProp 𝕄 :=
  (insM k).view.loc (c : Thread nD τ) ↦[(insM k).view.set]{fullShare} f

omit [FloatOps F] in
instance outPts_storable (c : Dev nD) (k f) : BI.Storable (upEmb : UEmb _ 𝕄) (outPts (F := F) c k f) := by unfold outPts; infer_instance
omit [FloatOps F] in
instance insPts_storable (c : Dev nD) (k f) : BI.Storable (upEmb : UEmb _ 𝕄) (insPts (F := F) c k f) := by unfold insPts; infer_instance

/-- An index of the box of slot `k` has `k` as its first coordinate and keeps the two others. -/
theorem rk_emb_0 (k : Fin 12) (j : (rk k).shape.Idx) : (rk k).emb j (0 : Fin 3) = k := by
  have h : (j (0 : Fin 3)).val < 1 := (j (0 : Fin 3)).isLt
  exact Fin.ext (show k.val + 1 * (j (0 : Fin 3)).val = k.val by omega)
theorem rk_emb_1 (k : Fin 12) (j : (rk k).shape.Idx) : ((rk k).emb j (1 : Fin 3)).val = (j (1 : Fin 3)).val :=
  show 0 + 1 * (j (1 : Fin 3)).val = (j (1 : Fin 3)).val by omega
theorem rk_emb_2 (k : Fin 12) (j : (rk k).shape.Idx) : ((rk k).emb j (2 : Fin 3)).val = (j (2 : Fin 3)).val :=
  show 0 + 1 * (j (2 : Fin 3)).val = (j (2 : Fin 3)).val by omega

/-- The elements of an outgoing slot are those of its box. -/
theorem out_set (k : Fin 12) : (outM k).view.set = (rk k).set :=
  (View.set_reshape _ _).trans (by rw [View.set_slice]; exact Finset.map_refl)
theorem ins_set (k : Fin 12) : (insM k).view.set = (rk k).set :=
  (View.set_reshape _ _).trans (by rw [View.set_slice]; exact Finset.map_refl)

/-- Every element of an outgoing slot is one of its box's. -/
theorem out_mem (k : Fin 12) {i : (outM k).view.ty.Idx} (hi : i ∈ (outM k).view.set) : ∃ j : (rk k).shape.Idx, (rk k).emb j = i := by
  obtain ⟨x, -, h⟩ := Finset.mem_map.mp hi
  exact ⟨_, h⟩

/-- On the box of slot `k` the full outgoing buffer is `sentV c k`. -/
theorem outsBuf_emb (c : Dev nD) (k : Fin 12) (j : (rk k).shape.Idx) : outsBuf m ρ c ((rk k).emb j) = sentV m ρ c k j := by
  unfold outsBuf
  rw [rk_emb_0]
  refine congrArg _ (funext fun a => ?_)
  have h : (j (0 : Fin 3)).val < 1 := (j (0 : Fin 3)).isLt
  fin_cases a
  · exact Fin.ext (show 0 = (j (0 : Fin 3)).val by omega)
  · exact Fin.ext (rk_emb_1 k j)
  · exact Fin.ext (rk_emb_2 k j)
/-- On the box of slot `k` the full arriving buffer is `recvV c k`. -/
theorem insBuf_emb (c : Dev nD) (k : Fin 12) (j : (rk k).shape.Idx) : insBuf m ρ c ((rk k).emb j) = recvV m ρ c k j := by
  unfold insBuf recvV
  rw [rk_emb_0]; exact outsBuf_emb m ρ _ k j

/-- Storing `sentV c k` through slot `k`'s box gives, on the slot, the full outgoing buffer. -/
theorem out_store (c : Dev nD) (k : Fin 12) (f : (cc0_scratch0 : Ref sig .tc).ty.Contents (Elt F)) (v : FVec F S1x256x256 .bf16) (hv : v = sentV m ρ c k) :
    ∀ i ∈ (outM k).view.set, (outB.access (rk k) : View sig .tc _ _ _).write (Elt F) f v Finset.univ i = outsBuf m ρ c i := by
  subst hv
  intro i hi
  obtain ⟨j, rfl⟩ := out_mem k hi
  rw [outsBuf_emb]
  exact View.write_emb_of_mem (Val := Elt F) (v := (outB.access (rk k) : View sig .tc _ _ _)) f _ (x := j) (Finset.mem_univ _)

/-- Loading slot `k` of the full arriving buffer gives `recvV c k`. -/
theorem ins_load (c : Dev nD) (k : Fin 12) : insB.view.readAt (Elt F) (rk k).toLoadRect (insBuf m ρ c) = recvV m ρ c k :=
  funext fun j => insBuf_emb m ρ c k j

/-- A transfer of slot `k` from device `c` gives, on the slot, its partner's full arriving buffer. -/
theorem send_lands (c : Dev nD) (k : Fin 12) (f : Buf (Elt F) ((insM k).view.loc (peer c k : Thread nD τ))) :
    ∀ i ∈ (insM k).view.set, (insM k).view.write (Elt F) f ((outM k).view.read (Elt F) (outsBuf m ρ c)) Finset.univ i = insBuf m ρ (peer c k) i := by
  intro i hi
  obtain ⟨x, -, rfl⟩ := Finset.mem_map.mp hi
  refine (View.write_emb_of_mem (Val := Elt F) (v := (insM k).view) f _ (x := x) (Finset.mem_univ _)).trans ?_
  show outsBuf m ρ c ((rk k).emb _) = insBuf m ρ (peer c k) ((rk k).emb _)
  rw [insBuf_emb, outsBuf_emb, recvV, peer_peer]

end Cert.KernelIdealProof

end
-- ==== Proof.KernelIdeal.Schedule.lean ====
/-
The protocol of `KernelIdeal`: who pays which semaphore, how much, and what each payment hands over; what every device
owes at launch; the levels that order the waits.

One round per semaphore. A device's barrier semaphore is paid one unit by each neighbour; the payment hands over the
neighbour's arriving slots on that axis. A send semaphore is paid by the device's own transfer, which hands the outgoing
slot back; a receive semaphore by the partner's transfer, which hands over the arriving slot filled.
-/
module

public import proofs.«01_k».proof.Proof.KernelIdeal.Slots

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The schedule -/

/-- What a device's barrier semaphore is handed with payment `d` (`true` from `xp c`, `false` from `yp c`): the payer's
    arriving slots on that axis, whatever they hold. -/
def barPay (c : Dev nD) (d : Bool) : sProp 𝕄 :=
  bigSep (Finset.univ.filter fun k : Fin 12 => onX k = d) fun k => iprop(∃ f, insPts (peer c k) k f)

omit [FloatOps F] in
instance barPay_storable (c : Dev nD) (d : Bool) : BI.Storable (upEmb : UEmb _ 𝕄) (barPay (F := F) c d) := by unfold barPay; infer_instance

/-- The payments a semaphore of a given role expects in its one round. -/
def roleDuties : Role → Finset Bool
  | .barrier => Finset.univ | .send _ => {false} | .recv _ => {false} | .other => ∅
/-- The units of each payment. -/
def roleAmount : Role → ℕ
  | .barrier => 1 | .send _ => N | .recv _ => N | .other => 1
/-- What a payment to device `c`'s semaphore of a given role hands over. -/
def rolePayload (c : Dev nD) (d : Bool) : Role → sProp 𝕄
  | .barrier => barPay c d
  | .send k => outPts c k (outsBuf m ρ c)
  | .recv k => insPts c k (insBuf m ρ c)
  | .other => iprop(emp)

instance rolePayload_storable (c : Dev nD) (d : Bool) (r : Role) : BI.Storable (upEmb : UEmb _ 𝕄) (rolePayload (F := F) m ρ c d r) := by
  cases r <;> (dsimp only [rolePayload]; infer_instance)

/-- The schedule: the role's payments in round 0 of a TensorCore's semaphore, nothing else. -/
def Rd : Rounds.Schedule (GSem nD τ sig) Bool 𝕄 where
  duties g r := if r = 0 ∧ g.1.2 = .tc then roleDuties (role g.2) else ∅
  unitless _ := False
  amount g _ _ := roleAmount (role g.2)
  payload g _ d := rolePayload m ρ g.1.1 d (role g.2)
  amount_pos g _ _ _ := by
    cases role g.2
    · exact Nat.one_pos
    · exact N_pos
    · exact N_pos
    · exact Nat.one_pos

instance Rd_payload_storable (g : GSem nD τ sig) (r : ℕ) (d : Bool) : BI.Storable (upEmb : UEmb _ 𝕄) ((Rd (F := F) m ρ).payload g r d) :=
  rolePayload_storable m ρ g.1.1 d (role g.2)

section Sched
variable (c : Dev nD) (k : Fin 12)

theorem duties_bar : (Rd (F := F) m ρ).duties (barCell c) 0 = Finset.univ := by
  dsimp only [Rd]; rw [if_pos ⟨rfl, rfl⟩, role_bar]; rfl
theorem duties_send : (Rd (F := F) m ρ).duties (sendCell c k) 0 = {false} := by
  dsimp only [Rd]; rw [if_pos ⟨rfl, rfl⟩, role_send]; rfl
theorem duties_recv : (Rd (F := F) m ρ).duties (recvCell c k) 0 = {false} := by
  dsimp only [Rd]; rw [if_pos ⟨rfl, rfl⟩, role_recv]; rfl
theorem duties_later (g : GSem nD τ sig) : ∀ r, 1 ≤ r → (Rd (F := F) m ρ).duties g r = ∅ :=
  fun r hr => by dsimp only [Rd]; rw [if_neg fun h => by omega]

theorem amount_bar (d : Bool) : (Rd (F := F) m ρ).amount (barCell c) 0 d = 1 := by dsimp only [Rd]; rw [role_bar]; rfl
theorem amount_send (d : Bool) : (Rd (F := F) m ρ).amount (sendCell c k) 0 d = N := by dsimp only [Rd]; rw [role_send]; rfl
theorem amount_recv (d : Bool) : (Rd (F := F) m ρ).amount (recvCell c k) 0 d = N := by dsimp only [Rd]; rw [role_recv]; rfl

theorem expect_bar : (Rd (F := F) m ρ).expect (barCell c) 0 = 2 := by
  unfold Schedule.expect Schedule.amountOf
  rw [duties_bar, Finset.sum_congr rfl fun d _ => amount_bar m ρ c d]; rfl
theorem expect_send : (Rd (F := F) m ρ).expect (sendCell c k) 0 = N := by
  unfold Schedule.expect Schedule.amountOf; rw [duties_send, Finset.sum_singleton, amount_send]
theorem expect_recv : (Rd (F := F) m ρ).expect (recvCell c k) 0 = N := by
  unfold Schedule.expect Schedule.amountOf; rw [duties_recv, Finset.sum_singleton, amount_recv]

theorem payload_bar (d : Bool) : (Rd (F := F) m ρ).payload (barCell c) 0 d = barPay c d := by dsimp only [Rd]; rw [role_bar]; rfl
theorem payload_send (d : Bool) : (Rd (F := F) m ρ).payload (sendCell c k) 0 d = outPts c k (outsBuf m ρ c) := by dsimp only [Rd]; rw [role_send]; rfl
theorem payload_recv (d : Bool) : (Rd (F := F) m ρ).payload (recvCell c k) 0 d = insPts c k (insBuf m ρ c) := by dsimp only [Rd]; rw [role_recv]; rfl

/-- Both payments of the barrier together: every arriving slot of the partners. -/
theorem rest_bar : bigSep ((Rd (F := F) m ρ).duties (barCell c) 0 \ ∅) (fun d => (Rd (F := F) m ρ).payload (barCell c) 0 d)
    = iprop(barPay c true ∗ barPay c false) := by
  rw [Finset.sdiff_empty, duties_bar, bigSep_univ_eq_bigSepL [true, false] (by decide) (by decide), bigSepL_cons_cons, bigSepL_singleton,
    payload_bar, payload_bar]
  rfl
theorem rest_send : bigSep ((Rd (F := F) m ρ).duties (sendCell c k) 0 \ ∅) (fun d => (Rd (F := F) m ρ).payload (sendCell c k) 0 d)
    = outPts c k (outsBuf m ρ c) := by
  rw [Finset.sdiff_empty, duties_send, bigSep_singleton, payload_send]
theorem rest_recv : bigSep ((Rd (F := F) m ρ).duties (recvCell c k) 0 \ ∅) (fun d => (Rd (F := F) m ρ).payload (recvCell c k) 0 d)
    = insPts c k (insBuf m ρ c) := by
  rw [Finset.sdiff_empty, duties_recv, bigSep_singleton, payload_recv]

end Sched

omit [FloatOps F] in
/-- The slots of both axes are all the slots. -/
theorem bigSep_axes (Φ : Fin 12 → sProp 𝕄) :
    bigSep Finset.univ Φ = iprop(bigSep (Finset.univ.filter fun k : Fin 12 => onX k = true) Φ ∗ bigSep (Finset.univ.filter fun k : Fin 12 => onX k = false) Φ) := by
  refine Eq.trans (congrArg (bigSep · Φ) ?_) (bigSep_union (s := Finset.univ.filter fun k : Fin 12 => onX k = true)
    (t := Finset.univ.filter fun k : Fin 12 => onX k = false) (by decide))
  decide

/-! ## Owed at launch; levels -/

/-- The transfers still to be made, as units owed to the partners' receive semaphores; the first of the list is made first. -/
def owL (c : Dev nD) : List (Fin 12) → CellTallies nD τ sig Unit
  | [] => 0
  | k :: l => owL c l + tallyAt (recvCell (peer c k) k) () N

/-- The order the kernel makes its transfers in. -/
abbrev sendOrder : List (Fin 12) := [0, 6, 1, 7, 2, 8, 3, 9, 10, 4, 11, 5]

/-- Owed after the first signal, and at launch: also a unit to each neighbour's barrier. -/
def O₁ (c : Dev nD) : CellTallies nD τ sig Unit := owL c sendOrder + tallyAt (barCell (yp c)) () 1
def O₀ (c : Dev nD) : CellTallies nD τ sig Unit := O₁ c + tallyAt (barCell (xp c)) () 1

/-- The slots sent last: they carry what arrived in an earlier slot. -/
abbrev late (k : Fin 12) : Bool := k = 4 || k = 5 || k = 10 || k = 11

def L (g : GSem nD τ sig) : Finset Unit := if g.1.2 = .tc then {()} else ∅
def roleLv : Role → ℕ
  | .barrier => 1 | .recv k => if late k then 3 else 2 | .send _ => 0 | .other => 0
/-- The barrier below the first arrivals, those below the last ones, all others at the bottom. -/
def lv (g : GSem nD τ sig) (_ : Unit) : ℕ := roleLv (role g.2)

theorem L_of_ne (g : GSem nD τ sig) (h : g.1.2 ≠ .tc) : L g = ∅ := if_neg h
theorem L_tc (c : Dev nD) (sm : SemLoc sig) : L ((c : Thread nD τ), sm) = {()} := if_pos rfl

theorem tally_pos {a g : GSem nD τ sig} {u : Unit} {n : ℕ} (h : 0 < (tallyAt a () n : CellTallies nD τ sig Unit) g u) : g = a := by
  rw [tallyAt_apply] at h
  by_contra hn
  rw [if_neg (fun h' => hn h'.1)] at h
  exact Nat.lt_irrefl 0 h

theorem owL_pos {c : Dev nD} {l : List (Fin 12)} {g : GSem nD τ sig} {u : Unit} (h : 0 < owL c l g u) : ∃ k ∈ l, g = recvCell (peer c k) k := by
  induction l with
  | nil => exact absurd h (Nat.lt_irrefl 0)
  | cons k l ih =>
    unfold owL at h
    rw [Pi.add_apply, Finsupp.add_apply] at h
    rcases Nat.eq_zero_or_pos (owL c l g u) with h0 | h0
    · rw [h0, Nat.zero_add] at h
      exact ⟨k, List.mem_cons_self, tally_pos h⟩
    · obtain ⟨j, hj, e⟩ := ih h0
      exact ⟨j, List.mem_cons_of_mem _ hj, e⟩

theorem O₀_pos {c : Dev nD} {g : GSem nD τ sig} {u : Unit} (h : 0 < O₀ c g u) :
    (∃ k, g = recvCell (peer c k) k) ∨ g = barCell (yp c) ∨ g = barCell (xp c) := by
  unfold O₀ O₁ at h
  rw [Pi.add_apply, Finsupp.add_apply, Pi.add_apply, Finsupp.add_apply] at h
  by_cases h1 : 0 < owL c sendOrder g u
  · obtain ⟨k, -, e⟩ := owL_pos h1; exact .inl ⟨k, e⟩
  · rw [Nat.eq_zero_of_not_pos h1, Nat.zero_add] at h
    by_cases h2 : 0 < (tallyAt (barCell (yp c)) () 1 : CellTallies nD τ sig Unit) g u
    · exact .inr (.inl (tally_pos h2))
    · rw [Nat.eq_zero_of_not_pos h2, Nat.zero_add] at h
      exact .inr (.inr (tally_pos h))

theorem lv_recv (c : Dev nD) (k : Fin 12) (u : Unit) : lv (recvCell c k) u = if late k then 3 else 2 := by dsimp only [lv]; rw [role_recv]; rfl
theorem lv_bar (c : Dev nD) (u : Unit) : lv (barCell c) u = 1 := by dsimp only [lv]; rw [role_bar]; rfl

omit [FloatOps F] in
/-- A wait on a semaphore of the bottom level is allowed whatever of the launch debt is still owed. -/
theorem mayWait_stage (c : Dev nD) (q : DmaSem sig) (hq : roleLv (role (.dma q)) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | rfl | rfl <;> exact Finset.mem_singleton_self _)
      (fun p hp => by rw [Finset.mem_singleton.mp hp]; exact hq.le)
      (fun g u hg => by
        rcases O₀_pos hg with ⟨k, rfl⟩ | rfl | rfl
        · rw [lv_recv]; split <;> decide
        · rw [lv_bar]; decide
        · rw [lv_bar]; decide)
  · rw [MayWait_zero]; iintro -; iempintro

omit [FloatOps F] in
/-- A wait on a semaphore of a level below those of all transfers still owed is allowed. -/
theorem mayWait_owL (c : Dev nD) (sm : SemLoc sig) (l : List (Fin 12)) (hl : ∀ k ∈ l, roleLv (role sm) < roleLv (.recv k)) :
    (levAts L lv : sProp 𝕄) ⊢ MayWait (c : Thread nD τ) sm () (owL c l) :=
  MayOwe.of_cut (L := L) (lev := lv) (roleLv (role sm)) (fun p hp => by rw [Finset.mem_singleton.mp hp, L_tc]; exact Finset.mem_singleton_self _)
    (fun g u hg => by obtain ⟨k, -, rfl⟩ := owL_pos hg; exact Finset.mem_singleton_self _)
    (fun p hp => by rw [Finset.mem_singleton.mp hp]; exact le_refl _)
    (fun g u hg => by obtain ⟨k, hk, rfl⟩ := owL_pos hg; dsimp only [lv]; rw [role_recv]; exact hl k hk)

end Cert.KernelIdealProof

end
-- ==== Proof.KernelIdeal.Steps.lean ====
/-
What a device holds between two operations of `KernelIdeal`'s body, and one rule per kind of operation.

The holdings are described by short lists of slots: which outgoing slots are filled (`st`), which transfers are still to be
made (`pend`), which arrivals have been waited for (`rv`), which transfers' completions have been waited for (`wt`).
-/
module

public import proofs.«01_k».proof.Proof.KernelIdeal.Schedule

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Device `c` runs `p` to `Q`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

abbrev KeyOf : Type := Dev nD × Option (Bool × Fin 12) → ℕ

/-- The shared facts: every semaphore's invariant, at the names `K`, and that every semaphore is at round 0. -/
def records (K : KeyOf) : sProp 𝕄 :=
  iprop((bigSep Finset.univ fun ck : Dev nD × Option (Bool × Fin 12) => cellInv ER (Rd m ρ) (K ck) (kcell ck))
    ∗ bigSep Finset.univ fun ck : Dev nD × Option (Bool × Fin 12) => reached ER (kcell ck) 0)

instance records_persistent (K : KeyOf) : BI.Persistent (records m ρ K) := by unfold records; infer_instance

theorem inv_at (K : KeyOf) (ck : Dev nD × Option (Bool × Fin 12)) : records m ρ K ⊢ cellInv ER (Rd m ρ) (K ck) (kcell ck) := by
  have h : (bigSep Finset.univ fun ck : Dev nD × Option (Bool × Fin 12) => (cellInv ER (Rd m ρ) (K ck) (kcell ck) : sProp 𝕄))
      ⊢ cellInv ER (Rd m ρ) (K ck) (kcell ck) := bigSep_elim (Finset.mem_univ ck)
  unfold records
  iintro ⟨H, -⟩
  iapply h; iexact H
theorem reached_at (K : KeyOf) (ck : Dev nD × Option (Bool × Fin 12)) : records m ρ K ⊢ reached ER (kcell ck) 0 := by
  have h : (bigSep Finset.univ fun ck : Dev nD × Option (Bool × Fin 12) => (reached ER (kcell ck) 0 : sProp 𝕄))
      ⊢ reached ER (kcell ck) 0 := bigSep_elim (Finset.mem_univ ck)
  unfold records
  iintro ⟨-, H⟩
  iapply h; iexact H

/-! ## The holdings -/

/-- Outgoing slot `k`: back, its send semaphore closed, once its completion was waited for; in flight once its transfer was
    made; before that the slot — filled or not —, the partner's arriving slot once the barrier is passed (`b`), and the
    right to pay both semaphores. -/
def slotSt (c : Dev nD) (b : Bool) (st wt pend : List (Fin 12)) (k : Fin 12) : sProp 𝕄 :=
  if k ∈ wt then iprop(outPts c k (outsBuf m ρ c) ∗ semVal (sendCell c k) 0)
  else if k ∈ pend then iprop((if k ∈ st then outPts c k (outsBuf m ρ c) else iprop(∃ f, outPts c k f))
      ∗ (if b then iprop(∃ f, insPts (peer c k) k f) else iprop(emp))
      ∗ dutyTok ER (sendCell c k) 0 false ∗ dutyTok ER (recvCell (peer c k) k) 0 false ∗ atPos ER (sendCell c k) 0 ∅ 0)
  else iprop(cred (tallyAt (sendCell c k) () N) ∗ atPos ER (sendCell c k) 0 ∅ 0)

/-- Arriving slot `k`: filled, its receive semaphore closed, once its arrival was waited for; before that the right to wait. -/
def inSt (c : Dev nD) (rv : List (Fin 12)) (k : Fin 12) : sProp 𝕄 :=
  if k ∈ rv then iprop(insPts c k (insBuf m ρ c) ∗ semVal (recvCell c k) 0)
  else iprop(cred (tallyAt (recvCell c k) () N) ∗ atPos ER (recvCell c k) 0 ∅ 0)

/-- The barrier semaphore: closed once passed, before that the right to wait for two units. -/
def barSt (c : Dev nD) (b : Bool) : sProp 𝕄 :=
  if b then semVal (barCell c) 0 else iprop(cred (tallyAt (barCell c) () 2) ∗ atPos ER (barCell c) 0 ∅ 0)

/-- The operands and the result staged on device `c`. -/
def winSt (c : Dev nD) (out : (cc0_stg2_0 : Ref sig .tc).ty.Contents (Elt F)) : sProp 𝕄 :=
  iprop((((c : Thread nD τ).loc cc0_stg0_0) ↦{fullShare} xstg m ρ c) ∗ (((c : Thread nD τ).loc cc0_stg1_0) ↦{fullShare} wstg m ρ c)
    ∗ (((c : Thread nD τ).loc cc0_stg2_0) ↦{fullShare} out))

/-- Everything device `c` holds between two operations of the body. -/
def Sx (K : KeyOf) (c : Dev nD) (b : Bool) (st wt pend rv : List (Fin 12)) (out : (cc0_stg2_0 : Ref sig .tc).ty.Contents (Elt F)) : sProp 𝕄 :=
  iprop(records m ρ K ∗ levAts L lv ∗ barSt c b ∗ (∃ W, owes (c : Thread nD τ) (owL c pend) W)
    ∗ (bigSep Finset.univ (slotSt m ρ c b st wt pend)) ∗ (bigSep Finset.univ (inSt m ρ c rv)) ∗ winSt m ρ c out)

/-- The outgoing slots other than `k` are untouched when the lists change at `k` only. -/
theorem slots_rest (c : Dev nD) (b : Bool) (k : Fin 12) {st wt pend st' wt' pend' : List (Fin 12)}
    (hs : ∀ j, j ≠ k → (j ∈ st ↔ j ∈ st')) (hw : ∀ j, j ≠ k → (j ∈ wt ↔ j ∈ wt')) (hp : ∀ j, j ≠ k → (j ∈ pend ↔ j ∈ pend')) :
    bigSep (Finset.univ.erase k) (slotSt m ρ c b st wt pend) = bigSep (Finset.univ.erase k) (slotSt m ρ c b st' wt' pend') :=
  bigSep_congr fun j hj => by
    have hn := Finset.ne_of_mem_erase hj
    unfold slotSt
    simp only [hs j hn, hw j hn, hp j hn]

theorem ins_rest (c : Dev nD) (k : Fin 12) {rv rv' : List (Fin 12)} (hr : ∀ j, j ≠ k → (j ∈ rv ↔ j ∈ rv')) :
    bigSep (Finset.univ.erase k) (inSt m ρ c rv) = bigSep (Finset.univ.erase k) (inSt m ρ c rv') :=
  bigSep_congr fun j hj => by
    have hn := Finset.ne_of_mem_erase hj
    unfold inSt
    simp only [hr j hn]

theorem mem_cons_other {k : Fin 12} {l : List (Fin 12)} : ∀ j, j ≠ k → (j ∈ l ↔ j ∈ k :: l) := fun j hj => by
  rw [List.mem_cons]; exact ⟨.inr, fun h => h.resolve_left hj⟩

section Steps

variable {K : KeyOf} {c : Dev nD} {b : Bool} {st wt pend rv : List (Fin 12)} {out : (cc0_stg2_0 : Ref sig .tc).ty.Contents (Elt F)}
variable {α : Type} {Q : α → sProp (MT nD τ sig Unit (Elt F) ℕ UU ℕ)}

/-- Loading a block of the left operand. -/
theorem step_loadX (off : Fin 2 → ℕ) (h : ∀ a, off a + S256x256.size a ≤ S1024x256.size a)
    {hl : xM.view.LoadsAt (Rect.unit (s := S1024x256) off S256x256.size h).toLoadRect}
    {kont : Vec F S256x256 .bf16 → Prog (TpuEff nD τ sig (Elt F) Λ₀ .tc) α}
    (hk : Sx m ρ K c b st wt pend rv out ⊢ WP c (kont (xAt m ρ c off h)) Q) :
    Sx m ρ K c b st wt pend rv out ⊢ WP c (.op (.load xM (Rect.unit (s := S1024x256) off S256x256.size h).toLoadRect hl) kont) Q := by
  unfold Sx winSt at *
  iintro ⟨#HR, #HL, Hb, Ho, Hs, Hi, Hx, Hw, Hout⟩
  iapply (wp_load 𝒱₀ (c : Thread nD τ) none Set.univ (m := xM) (Finset.subset_univ _)) $$ Hx; iintro Hx
  iapply hk
  iframe # ∗

/-- Loading a block of the right operand. -/
theorem step_loadW (off : Fin 2 → ℕ) (h : ∀ a, off a + S256x256.size a ≤ S256x1024.size a)
    {hl : wM.view.LoadsAt (Rect.unit (s := S256x1024) off S256x256.size h).toLoadRect}
    {kont : Vec F S256x256 .bf16 → Prog (TpuEff nD τ sig (Elt F) Λ₀ .tc) α}
    (hk : Sx m ρ K c b st wt pend rv out ⊢ WP c (kont (wAt m ρ c off h)) Q) :
    Sx m ρ K c b st wt pend rv out ⊢ WP c (.op (.load wM (Rect.unit (s := S256x1024) off S256x256.size h).toLoadRect hl) kont) Q := by
  unfold Sx winSt at *
  iintro ⟨#HR, #HL, Hb, Ho, Hs, Hi, Hx, Hw, Hout⟩
  iapply (wp_load 𝒱₀ (c : Thread nD τ) none Set.univ (m := wM) (Finset.subset_univ _)) $$ Hw; iintro Hw
  iapply hk
  iframe # ∗

/-- Loading from the staged result (the value is not used by the kernel: whatever it is). -/
theorem step_loadO (off : Fin 2 → ℕ) (h : ∀ a, off a + S256x256.size a ≤ S256x1024.size a)
    {hl : oM.view.LoadsAt (Rect.unit (s := S256x1024) off S256x256.size h).toLoadRect}
    {kont : Vec F S256x256 .f32 → Prog (TpuEff nD τ sig (Elt F) Λ₀ .tc) α}
    (hk : ∀ v, Sx m ρ K c b st wt pend rv out ⊢ WP c (kont v) Q) :
    Sx m ρ K c b st wt pend rv out ⊢ WP c (.op (.load oM (Rect.unit (s := S256x1024) off S256x256.size h).toLoadRect hl) kont) Q := by
  unfold Sx winSt at *
  iintro ⟨#HR, #HL, Hb, Ho, Hs, Hi, Hx, Hw, Hout⟩
  iapply (wp_load 𝒱₀ (c : Thread nD τ) none Set.univ (m := oM) (Finset.subset_univ _)) $$ Hout; iintro Hout
  iapply (hk _)
  iframe # ∗

/-- Storing a block of the staged result. -/
theorem step_storeO (r : Rect S256x1024) {w : r.shape.Idx → Elt F .f32} {hx : (oM.access r).Stores Finset.univ}
    {hm : (Finset.univ : Finset r.shape.Idx) = Finset.univ ∨ ∀ a, r.stride a = 1}
    {kont : PUnit → Prog (TpuEff nD τ sig (Elt F) Λ₀ .tc) α}
    (hk : Sx m ρ K c b st wt pend rv ((oM.access r : View sig .tc _ _ _).write (Elt F) out w Finset.univ) ⊢ WP c (kont ⟨⟩) Q) :
    Sx m ρ K c b st wt pend rv out ⊢ WP c (.op (.store oM r w Finset.univ hx hm) kont) Q := by
  unfold Sx winSt at *
  iintro ⟨#HR, #HL, Hb, Ho, Hs, Hi, Hx, Hw, Hout⟩
  iapply (wp_store 𝒱₀ (c : Thread nD τ) none Set.univ (m := oM) (r := r) (Mk := Finset.univ) (Finset.subset_univ _)) $$ Hout; iintro Hout
  iapply hk
  iframe # ∗

/-- Loading an outgoing slot not sent yet (the value is not used by the kernel: whatever it is). -/
theorem step_loadOut (k : Fin 12) (hp : k ∈ pend) (hw : k ∉ wt)
    {hl : outB.view.LoadsAt (rk k).toLoadRect} {kont : Vec F S1x256x256 .bf16 → Prog (TpuEff nD τ sig (Elt F) Λ₀ .tc) α}
    (hk : ∀ v, Sx m ρ K c b st wt pend rv out ⊢ WP c (kont v) Q) :
    Sx m ρ K c b st wt pend rv out ⊢ WP c (.op (.load outB (rk k).toLoadRect hl) kont) Q := by
  have hset : outB.view.setOn (rk k).toLoadRect.set ⊆ (outM k).view.set := by
    rw [out_set]; exact subset_of_eq Finset.map_refl
  unfold Sx at *
  simp only [bigSep_univ_at (slotSt m ρ c b st wt pend) k] at hk ⊢
  have hslot : slotSt m ρ c b st wt pend k = iprop((if k ∈ st then outPts c k (outsBuf m ρ c) else iprop(∃ f, outPts c k f))
      ∗ (if b then iprop(∃ f, insPts (peer c k) k f) else iprop(emp))
      ∗ dutyTok ER (sendCell c k) 0 false ∗ dutyTok ER (recvCell (peer c k) k) 0 false ∗ atPos ER (sendCell c k) 0 ∅ 0) := by
    unfold slotSt; rw [if_neg hw, if_pos hp]
  simp only [hslot] at hk ⊢
  iintro ⟨#HR, #HL, Hb, Ho, ⟨⟨Hout, Ht⟩, Hs⟩, Hi, Hx⟩
  by_cases hst : k ∈ st
  · simp only [if_pos hst] at hk ⊢
    unfold outPts at hk ⊢
    iapply (wp_load 𝒱₀ (c : Thread nD τ) none Set.univ (m := outB) hset) $$ Hout; iintro Hout
    iapply (hk _)
    iframe # ∗
  · simp only [if_neg hst] at hk ⊢
    unfold outPts at hk ⊢
    icases Hout with ⟨%f, Hout⟩
    iapply (wp_load 𝒱₀ (c : Thread nD τ) none Set.univ (m := outB) hset) $$ Hout; iintro Hout
    iapply (hk _)
    iframe # ∗
    iexists _; iexact Hout

/-- Filling an outgoing slot not filled before. -/
theorem step_storeOut (k : Fin 12) (hp : k ∈ pend) (hw : k ∉ wt) (hst : k ∉ st) {v : Vec F S1x256x256 .bf16} (hv : v = sentV m ρ c k)
    {hx : (outB.access (rk k)).Stores Finset.univ} {hm : (Finset.univ : Finset (rk k).shape.Idx) = Finset.univ ∨ ∀ a, (rk k).stride a = 1}
    {kont : PUnit → Prog (TpuEff nD τ sig (Elt F) Λ₀ .tc) α}
    (hk : Sx m ρ K c b (k :: st) wt pend rv out ⊢ WP c (kont ⟨⟩) Q) :
    Sx m ρ K c b st wt pend rv out ⊢ WP c (.op (.store outB (rk k) v Finset.univ hx hm) kont) Q := by
  have hset : (outB.access (rk k)).setOn Finset.univ ⊆ (outM k).view.set := by
    rw [out_set]; exact subset_of_eq ((View.set_slice _ _).trans Finset.map_refl)
  unfold Sx at *
  rw [bigSep_univ_at (slotSt m ρ c b st wt pend) k]
  rw [bigSep_univ_at (slotSt m ρ c b (k :: st) wt pend) k,
    ← slots_rest m ρ c b k (st := st) mem_cons_other (fun _ _ => Iff.rfl) (fun _ _ => Iff.rfl)] at hk
  have h1 : slotSt m ρ c b st wt pend k = iprop(iprop(∃ f, outPts c k f)
      ∗ (if b then iprop(∃ f, insPts (peer c k) k f) else iprop(emp))
      ∗ dutyTok ER (sendCell c k) 0 false ∗ dutyTok ER (recvCell (peer c k) k) 0 false ∗ atPos ER (sendCell c k) 0 ∅ 0) := by
    unfold slotSt; rw [if_neg hw, if_pos hp, if_neg hst]
  have h2 : slotSt m ρ c b (k :: st) wt pend k = iprop(outPts c k (outsBuf m ρ c)
      ∗ (if b then iprop(∃ f, insPts (peer c k) k f) else iprop(emp))
      ∗ dutyTok ER (sendCell c k) 0 false ∗ dutyTok ER (recvCell (peer c k) k) 0 false ∗ atPos ER (sendCell c k) 0 ∅ 0) := by
    unfold slotSt; rw [if_neg hw, if_pos hp, if_pos List.mem_cons_self]
  rw [h1]
  rw [h2] at hk
  iintro ⟨#HR, #HL, Hb, Ho, ⟨⟨⟨%f, Hout⟩, Ht⟩, Hs⟩, Hi, Hx⟩
  have hcong : ((outM k).view.loc (c : Thread nD τ) ↦[(outM k).view.set]{fullShare} ((outB.access (rk k) : View sig .tc _ _ _).write (Elt F) f v Finset.univ) : sProp 𝕄)
      ⊢ outPts c k (outsBuf m ρ c) := Entails.of_eq (pointsTo_congr (out_store m ρ c k f v hv))
  unfold outPts at *
  iapply (wp_store 𝒱₀ (c : Thread nD τ) none Set.univ (m := outB) (r := rk k) (Mk := Finset.univ) hset) $$ Hout; iintro Hout
  ihave Hout' := hcong $$ Hout
  iapply hk
  iframe # ∗

/-- Loading an arriving slot whose arrival was waited for. -/
theorem step_loadIns (k : Fin 12) (hr : k ∈ rv)
    {hl : insB.view.LoadsAt (rk k).toLoadRect} {kont : Vec F S1x256x256 .bf16 → Prog (TpuEff nD τ sig (Elt F) Λ₀ .tc) α}
    (hk : Sx m ρ K c b st wt pend rv out ⊢ WP c (kont (recvV m ρ c k)) Q) :
    Sx m ρ K c b st wt pend rv out ⊢ WP c (.op (.load insB (rk k).toLoadRect hl) kont) Q := by
  have hset : insB.view.setOn (rk k).toLoadRect.set ⊆ (insM k).view.set := by
    rw [ins_set]; exact subset_of_eq Finset.map_refl
  rw [← ins_load m ρ c k] at hk
  unfold Sx at *
  rw [bigSep_univ_at (inSt m ρ c rv) k] at hk ⊢
  have hin : inSt m ρ c rv k = iprop(insPts c k (insBuf m ρ c) ∗ semVal (recvCell c k) 0) := by unfold inSt; rw [if_pos hr]
  rw [hin] at hk ⊢
  unfold insPts at hk ⊢
  iintro ⟨#HR, #HL, Hb, Ho, Hs, ⟨⟨Hin, Hv⟩, Hi⟩, Hx⟩
  iapply (wp_load 𝒱₀ (c : Thread nD τ) none Set.univ (m := insB) hset) $$ Hin; iintro Hin
  iapply hk
  iframe # ∗

/-- The transfer of a filled outgoing slot to the partner, whose arriving slot came with the barrier. -/
theorem step_send (k : Fin 12) {l : List (Fin 12)} (hl : k ∉ l) (hw : k ∉ wt) (hst : k ∈ st) (n : Dev nD) (hn : n = peer c k)
    {hsc : (insM k : Memref sig (Dev.tc n : Thread nD τ).2.kind .vmem S256x256 .bf16).view.ref.isScScratch = false}
    {hsrc : (outM k).view.WordExact} {hdst : (insM k).view.WordExact}
    {hsem : DmaTarget.Typed .vmem (.dma (recvS k)) (.remote (Dev.tc n : Thread nD τ) (insM k) (.dma (sendS k)) hsc)}
    {kont : PUnit → Prog (TpuEff nD τ sig (Elt F) Λ₀ .tc) α}
    (hk : Sx m ρ K c true st wt l rv out ⊢ WP c (kont ⟨⟩) Q) :
    Sx m ρ K c true st wt (k :: l) rv out
      ⊢ WP c (.op (.enqueueDma (outM k) (.remote (Dev.tc n : Thread nD τ) (insM k) (.dma (sendS k)) hsc) (.dma (recvS k)) hsrc hdst hsem) kont) Q := by
  subst hn
  unfold Sx at *
  rw [bigSep_univ_at (slotSt m ρ c true st wt (k :: l)) k]
  rw [bigSep_univ_at (slotSt m ρ c true st wt l) k,
    slots_rest m ρ c true k (pend := l) (pend' := k :: l) (fun _ _ => Iff.rfl) (fun _ _ => Iff.rfl) mem_cons_other] at hk
  have h1 : slotSt m ρ c true st wt (k :: l) k = iprop(outPts c k (outsBuf m ρ c) ∗ iprop(∃ f, insPts (peer c k) k f)
      ∗ dutyTok ER (sendCell c k) 0 false ∗ dutyTok ER (recvCell (peer c k) k) 0 false ∗ atPos ER (sendCell c k) 0 ∅ 0) := by
    unfold slotSt; rw [if_neg hw, if_pos List.mem_cons_self, if_pos hst, if_pos rfl]
  have h2 : slotSt m ρ c true st wt l k = iprop(cred (tallyAt (sendCell c k) () N) ∗ atPos ER (sendCell c k) 0 ∅ 0) := by
    unfold slotSt; rw [if_neg hw, if_neg hl]
  rw [h1]
  rw [h2] at hk
  iintro ⟨#HR, #HL, Hb, ⟨%W, Ho⟩, ⟨⟨Hout, ⟨%f, Hin⟩, Ht1, Ht2, Hat⟩, Hs⟩, Hi, Hx⟩
  unfold outPts insPts at *
  iapply (Rounds.wp_send_pointsTo 𝒱₀ ER (Rd m ρ) (c : Thread nD τ) none (κ₁ := K (c, some (false, k))) (κ₂ := K (peer c k, some (true, k)))
    (r₁ := 0) (r₂ := 0) (d₁ := false) (d₂ := false) (fd := f)
    (by rw [duties_send]; exact Finset.mem_singleton_self _) (by rw [duties_recv]; exact Finset.mem_singleton_self _)
    () () N rfl (amount_send m ρ c k false) (amount_recv m ρ (peer c k) k false) (owL c l) rfl (W := W)
    (by rw [payload_send]; exact BI.Entails.refl _)
    (by rw [payload_recv]; exact Entails.of_eq (pointsTo_congr (send_lands m ρ c k f)))) $$ [Hout Hin Ho Ht1 Ht2]
  · isplitr; · iapply (inv_at m ρ K (c, some (false, k))); iexact HR
    isplitr; · iapply (inv_at m ρ K (peer c k, some (true, k))); iexact HR
    isplitl [Hout]; · iexact Hout
    isplitl [Hin]; · iexact Hin
    isplitl [Ho]; · iexact Ho
    isplitl [Ht1]; · iexact Ht1
    isplitr; · iapply (reached_at m ρ K (c, some (false, k))); iexact HR
    isplitl [Ht2]; · iexact Ht2
    iapply (reached_at m ρ K (peer c k, some (true, k))); iexact HR
  iintro ⟨Hc, Ho⟩
  iapply hk
  iframe # ∗
  iexists _; iexact Ho

/-- The wait for an arrival: allowed while the transfers still owed arrive at a higher level. -/
theorem step_waitRecv (k : Fin 12) (hr : k ∉ rv) (hlv : ∀ j ∈ pend, roleLv (.recv k) < roleLv (.recv j))
    {src : Memref sig .tc .vmem S256x256 .bf16} {hsrc : src.view.WordExact} {hdst : (insM k).view.WordExact}
    {kont : PUnit → Prog (TpuEff nD τ sig (Elt F) Λ₀ .tc) α}
    (hk : Sx m ρ K c b st wt pend (k :: rv) out ⊢ WP c (kont ⟨⟩) Q) :
    Sx m ρ K c b st wt pend rv out ⊢ WP c (.op (.waitDma2 (recvS k) src (insM k) hsrc hdst) kont) Q := by
  unfold Sx at *
  rw [bigSep_univ_at (inSt m ρ c rv) k]
  rw [bigSep_univ_at (inSt m ρ c (k :: rv)) k, ← ins_rest m ρ c k (rv := rv) mem_cons_other] at hk
  have h1 : inSt m ρ c rv k = iprop(cred (tallyAt (recvCell c k) () N) ∗ atPos ER (recvCell c k) 0 ∅ 0) := by
    unfold inSt; rw [if_neg hr]
  have h2 : inSt m ρ c (k :: rv) k = iprop(insPts c k (insBuf m ρ c) ∗ semVal (recvCell c k) 0) := by
    unfold inSt; rw [if_pos List.mem_cons_self]
  rw [h1]
  rw [h2] at hk
  iintro ⟨#HR, #HL, Hb, ⟨%W, Ho⟩, Hs, ⟨⟨Hc, Hat⟩, Hi⟩, Hx⟩
  iapply (Rounds.wp_wait_rest_token 𝒱₀ ER (Rd m ρ) (c : Thread nD τ) none (κ := K (c, some (true, k)))
      (wpE_waitDma2_eq 𝒱₀ (c : Thread nD τ) none Set.univ) (Set.mem_univ _) () (O := owL c pend) (W := W) (R := 0) (m := 0) (T := ∅)
      (by rw [Nat.zero_add, expect_recv])) $$ [Hc Ho Hat]
  · isplitr; · iapply (inv_at m ρ K (c, some (true, k))); iexact HR
    isplitl [Hc]; · iexact Hc
    isplitl [Ho]; · iexact Ho
    isplitr; · iapply (mayWait_owL c (.dma (recvS k)) pend (by rw [role_recv]; exact hlv)); iexact HL
    iexact Hat
  iintro ⟨Ho, Hat, -, Hpay⟩
  ihave Hin := (Entails.of_eq (rest_recv m ρ c k)) $$ Hpay
  imod (Rounds.cell_close ER (Rd m ρ) (Set.mem_univ (K (c, some (true, k)))) (fun h => h) (R := 0 + 1) (duties_later m ρ (recvCell c k))) $$ [Hat] with Hz
  · isplitr; · iapply (inv_at m ρ K (c, some (true, k))); iexact HR
    iexact Hat
  iapply hk
  iframe # ∗
  iexists _; iexact Ho

/-- The wait for a transfer's completion, nothing being owed any more. -/
theorem step_waitSend (k : Fin 12) (hw : k ∉ wt)
    {src : Memref sig .tc .vmem S256x256 .bf16} {hsrc : src.view.WordExact} {hdst : (outM k).view.WordExact}
    {kont : PUnit → Prog (TpuEff nD τ sig (Elt F) Λ₀ .tc) α}
    (hk : Sx m ρ K c b st (k :: wt) [] rv out ⊢ WP c (kont ⟨⟩) Q) :
    Sx m ρ K c b st wt [] rv out ⊢ WP c (.op (.waitDma2 (sendS k) src (outM k) hsrc hdst) kont) Q := by
  unfold Sx at *
  rw [bigSep_univ_at (slotSt m ρ c b st wt []) k]
  rw [bigSep_univ_at (slotSt m ρ c b st (k :: wt) []) k,
    ← slots_rest m ρ c b k (wt := wt) (wt' := k :: wt) (fun _ _ => Iff.rfl) mem_cons_other (fun _ _ => Iff.rfl)] at hk
  have h1 : slotSt m ρ c b st wt [] k = iprop(cred (tallyAt (sendCell c k) () N) ∗ atPos ER (sendCell c k) 0 ∅ 0) := by
    unfold slotSt; rw [if_neg hw, if_neg List.not_mem_nil]
  have h2 : slotSt m ρ c b st (k :: wt) [] k = iprop(outPts c k (outsBuf m ρ c) ∗ semVal (sendCell c k) 0) := by
    unfold slotSt; rw [if_pos List.mem_cons_self]
  rw [h1]
  rw [h2] at hk
  iintro ⟨#HR, #HL, Hb, ⟨%W, Ho⟩, ⟨⟨Hc, Hat⟩, Hs⟩, Hi, Hx⟩
  iapply (Rounds.wp_wait_rest_token 𝒱₀ ER (Rd m ρ) (c : Thread nD τ) none (κ := K (c, some (false, k)))
      (wpE_waitDma2_eq 𝒱₀ (c : Thread nD τ) none Set.univ) (Set.mem_univ _) () (O := owL c []) (W := W) (R := 0) (m := 0) (T := ∅)
      (by rw [Nat.zero_add, expect_send])) $$ [Hc Ho Hat]
  · isplitr; · iapply (inv_at m ρ K (c, some (false, k))); iexact HR
    isplitl [Hc]; · iexact Hc
    isplitl [Ho]; · iexact Ho
    isplitr; · iapply (mayWait_owL c (.dma (sendS k)) [] (fun j hj => absurd hj List.not_mem_nil)); iexact HL
    iexact Hat
  iintro ⟨Ho, Hat, -, Hpay⟩
  ihave Hout := (Entails.of_eq (rest_send m ρ c k)) $$ Hpay
  imod (Rounds.cell_close ER (Rd m ρ) (Set.mem_univ (K (c, some (false, k)))) (fun h => h) (R := 0 + 1) (duties_later m ρ (sendCell c k))) $$ [Hat] with Hz
  · isplitr; · iapply (inv_at m ρ K (c, some (false, k))); iexact HR
    iexact Hat
  iapply hk
  iframe # ∗
  iexists _; iexact Ho

/-- The barrier hands every slot its partner's arriving slot. -/
theorem slots_barrier (pend : List (Fin 12)) (hall : ∀ k, k ∈ pend) :
    iprop(bigSep Finset.univ (slotSt m ρ c false st [] pend) ∗ bigSep Finset.univ fun k : Fin 12 => iprop(∃ f, insPts (peer c k) k f))
      ⊢ bigSep Finset.univ (slotSt m ρ c true st [] pend) := by
  have h : ∀ k, (iprop(slotSt m ρ c false st [] pend k ∗ ∃ f, insPts (peer c k) k f) : sProp 𝕄) ⊢ slotSt m ρ c true st [] pend k := by
    intro k
    unfold slotSt
    rw [if_neg List.not_mem_nil, if_neg List.not_mem_nil, if_pos (hall k), if_pos (hall k), if_pos rfl, if_neg Bool.false_ne_true]
    iintro ⟨⟨Ho, -, Ht⟩, Hin⟩
    iframe ∗
  rw [← bigSep_sep']
  exact bigSep_mono fun k _ => h k

/-- The barrier's level lies below every arrival's. -/
theorem roleLv_bar_lt (j : Fin 12) : roleLv (role (.reg barS)) < roleLv (.recv j) := by
  rw [role_bar]; revert j; decide

/-- The wait for both neighbours' units on the barrier semaphore. -/
theorem step_waitBar (hall : ∀ k, k ∈ pend) {kont : PUnit → Prog (TpuEff nD τ sig (Elt F) Λ₀ .tc) α}
    (hk : Sx m ρ K c true st [] pend rv out ⊢ WP c (kont ⟨⟩) Q) :
    Sx m ρ K c false st [] pend rv out ⊢ WP c (.op (.semWait barS 2) kont) Q := by
  unfold Sx barSt at *
  rw [if_pos rfl] at hk
  rw [if_neg Bool.false_ne_true]
  iintro ⟨#HR, #HL, ⟨Hc, Hat⟩, ⟨%W, Ho⟩, Hs, Hi, Hx⟩
  iapply (Rounds.wp_wait_rest_token 𝒱₀ ER (Rd m ρ) (c : Thread nD τ) none (κ := K (c, none))
      (wpE_semWait_eq 𝒱₀ (c : Thread nD τ) none Set.univ) (Set.mem_univ _) () (O := owL c pend) (W := W) (R := 0) (m := 0) (T := ∅)
      (by rw [Nat.zero_add, expect_bar])) $$ [Hc Ho Hat]
  · isplitr; · iapply (inv_at m ρ K (c, none)); iexact HR
    isplitl [Hc]; · iexact Hc
    isplitl [Ho]; · iexact Ho
    isplitr
    · iapply (mayWait_owL c (.reg barS) pend (fun j _ => roleLv_bar_lt j)); iexact HL
    iexact Hat
  iintro ⟨Ho, Hat, -, Hpay⟩
  ihave Hp := (Entails.of_eq (rest_bar m ρ c)) $$ Hpay
  unfold barPay at *
  ihave Hp' := (Entails.of_eq (bigSep_axes (fun k : Fin 12 => (iprop(∃ f, insPts (peer c k) k f) : sProp 𝕄))).symm) $$ Hp
  ihave Hs' := (slots_barrier m ρ (c := c) (st := st) pend hall) $$ [Hs Hp']
  · isplitl [Hs] <;> iassumption
  imod (Rounds.cell_close ER (Rd m ρ) (Set.mem_univ (K (c, none))) (fun h => h) (R := 0 + 1) (duties_later m ρ (barCell c))) $$ [Hat] with Hz
  · isplitr; · iapply (inv_at m ρ K (c, none)); iexact HR
    iexact Hat
  iapply hk
  iframe # ∗
  iexists _; iexact Ho

end Steps

end Cert.KernelIdealProof

end
-- ==== Proof.KernelIdeal.Parts.lean ====
/-
The body of `KernelIdeal`, part by part: each part of the printed program runs from the holdings before it to those after
it. Every step is one of the rules of `Steps`, in program order.
-/
module

public import proofs.«01_k».proof.Proof.KernelIdeal.Steps

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The staged result with 256 columns, from column `off 1` on, replaced by `v`. -/
abbrev putO (out : (cc0_stg2_0 : Ref sig .tc).ty.Contents (Elt F)) (off : Fin 2 → ℕ) (h : ∀ a, off a + S256x256.size a ≤ S256x1024.size a)
    (v : FVec F S256x256 .f32) : (cc0_stg2_0 : Ref sig .tc).ty.Contents (Elt F) :=
  (oM.access (Rect.unit (s := S256x1024) off S256x256.size h) : View sig .tc _ _ _).write (Elt F) out v Finset.univ

/-- The staged result after the first quarter, and after the next two. -/
def out1 (c : Dev nD) (out : (cc0_stg2_0 : Ref sig .tc).ty.Contents (Elt F)) : (cc0_stg2_0 : Ref sig .tc).ty.Contents (Elt F) :=
  putO out ![0, 0] inb_S256x1024_S256x256_0_0 (res0 m ρ c)
def out3 (c : Dev nD) (out : (cc0_stg2_0 : Ref sig .tc).ty.Contents (Elt F)) : (cc0_stg2_0 : Ref sig .tc).ty.Contents (Elt F) :=
  putO (putO (out1 m ρ c out) ![0, 512] inb_S256x1024_S256x256_0_512 (res2 m ρ c)) ![0, 256] inb_S256x1024_S256x256_0_256 (res1 m ρ c)
/-- The staged result after all four quarters. -/
def out4 (c : Dev nD) (out : (cc0_stg2_0 : Ref sig .tc).ty.Contents (Elt F)) : (cc0_stg2_0 : Ref sig .tc).ty.Contents (Elt F) :=
  putO (out3 m ρ c out) ![0, 768] inb_S256x1024_S256x256_0_768 (res3 m ρ c)

/-- What device `c` holds when the body begins, both neighbours' barriers still to be signalled. -/
def Sstart (K : KeyOf) (c : Dev nD) (out : (cc0_stg2_0 : Ref sig .tc).ty.Contents (Elt F)) : sProp 𝕄 :=
  iprop(records m ρ K ∗ levAts L lv ∗ barSt c false ∗ (∃ W, owes (c : Thread nD τ) (O₀ c) W)
    ∗ dutyTok ER (barCell (xp c)) 0 true ∗ dutyTok ER (barCell (yp c)) 0 false
    ∗ (bigSep Finset.univ fun k : Fin 12 => iprop(∃ f, insPts c k f))
    ∗ (bigSep Finset.univ (slotSt m ρ c false [] [] sendOrder)) ∗ (bigSep Finset.univ (inSt m ρ c [])) ∗ winSt m ρ c out)

theorem peer_xp (c : Dev nD) : ∀ k, onX k = true → peer (xp c) k = c := by revert c; decide
theorem peer_yp (c : Dev nD) : ∀ k, onX k = false → peer (yp c) k = c := by revert c; decide

omit [FloatOps F] in
/-- A device's arriving slots of the first axis are what its signal hands to the neighbour there. -/
theorem barPay_xp (c : Dev nD) : barPay (F := F) (xp c) true = bigSep (Finset.univ.filter fun k : Fin 12 => onX k = true) fun k => iprop(∃ f, insPts c k f) := by
  unfold barPay
  exact bigSep_congr fun k hk => by rw [peer_xp c k (Finset.mem_filter.mp hk).2]
omit [FloatOps F] in
/-- The same for the second axis. -/
theorem barPay_yp (c : Dev nD) : barPay (F := F) (yp c) false = bigSep (Finset.univ.filter fun k : Fin 12 => onX k = false) fun k => iprop(∃ f, insPts c k f) := by
  unfold barPay
  exact bigSep_congr fun k hk => by rw [peer_yp c k (Finset.mem_filter.mp hk).2]

section Parts

variable {K : KeyOf} {c : Dev nD} {out : (cc0_stg2_0 : Ref sig .tc).ty.Contents (Elt F)}
variable {α : Type} {Q : α → sProp (MT nD τ sig Unit (Elt F) ℕ UU ℕ)}
variable {h0 : xM.IsWhole} {h1 : wM.IsWhole} {h2 : oM.IsWhole} {h3 : outB.IsWhole} {h4 : insB.IsWhole}

/-- The signals to both neighbours, from what a device holds at the start. -/
theorem step_signals {kont : PUnit → Prog (TpuEff nD τ sig (Elt F) Λ₀ .tc) α}
    (hk : Sx m ρ K c false [] [] sendOrder [] out ⊢ WP c (kont ⟨⟩) Q) :
    Sstart m ρ K c out ⊢ WP c (.op (.semSignal (xp c : Thread nD τ) barS 1) fun _ => .op (.semSignal (yp c : Thread nD τ) barS 1) kont) Q := by
  unfold Sstart
  unfold Sx at hk
  iintro ⟨#HR, #HL, Hb, ⟨%W, Ho⟩, HtX, HtY, Hin, Hx⟩
  ihave Hin' := (Entails.of_eq (bigSep_axes (fun k : Fin 12 => (iprop(∃ f, insPts c k f) : sProp 𝕄)))) $$ Hin
  icases Hin' with ⟨HinX, HinY⟩
  iapply (Rounds.wp_signal 𝒱₀ ER (Rd m ρ) (c : Thread nD τ) none (dst := (xp c : Thread nD τ)) (κ := K (xp c, none))
      (d := true) (by rw [duties_bar]; exact Finset.mem_univ _) (amount_bar m ρ (xp c) true) () (O₁ c) rfl)
    $$ [Ho HtX HinX]
  · isplitr; · iapply (inv_at m ρ K (xp c, none)); iexact HR
    isplitl [Ho]; · iexact Ho
    isplitl [HtX]; · iexact HtX
    isplitl [HinX]; · rw [payload_bar, barPay_xp]; iexact HinX
    iapply (reached_at m ρ K (xp c, none)); iexact HR
  iintro Ho
  iapply (Rounds.wp_signal 𝒱₀ ER (Rd m ρ) (c : Thread nD τ) none (dst := (yp c : Thread nD τ)) (κ := K (yp c, none))
      (d := false) (by rw [duties_bar]; exact Finset.mem_univ _) (amount_bar m ρ (yp c) false) () (owL c sendOrder) rfl)
    $$ [Ho HtY HinY]
  · isplitr; · iapply (inv_at m ρ K (yp c, none)); iexact HR
    isplitl [Ho]; · iexact Ho
    isplitl [HtY]; · iexact HtY
    isplitl [HinY]; · rw [payload_bar, barPay_yp]; iexact HinY
    iapply (reached_at m ρ K (yp c, none)); iexact HR
  iintro Ho
  iapply hk
  iframe # ∗
  iexists _; iexact Ho

/-- Both signals, and the operands of the first block. -/
theorem part1 {kont : _ → Prog (TpuEff nD τ sig (Elt F) Λ₀ .tc) α}
    (hk : ∀ v2 v3 v4 v15 : BitVec 32, Sx m ρ K c false [] [] [0, 6, 1, 7, 2, 8, 3, 9, 10, 4, 11, 5] [] out ⊢ WP c (kont ⟨c, v2, v3, v4, v15, SemArray.scalar (sig.barrier 0 rfl), k0_pay1 (xd m ρ c) (w0 m ρ c)⟩) Q) :
    Sstart m ρ K c out ⊢ WP c (k0_part1 xM h0 wM h1 oM h2 outB h3 insB h4 cc0_scratch2 cc0_scratch3 >>= kont) Q := by
  rw [k0_part1_eq_skeleton]; unfold k0_part1_skel
  simp only [semSignalWord, semWaitWord, Prog.lift, Prog.bind_op, Prog.bind_ret, Prog.pure_eq_ret, wp_deviceId]
  simp only [dev1_eq c, dev2_eq c]
  refine step_signals m ρ ?_
  refine step_loadX m ρ _ _ ?_
  refine step_loadW m ρ _ _ ?_
  refine step_loadOut m ρ 0 (by decide) (by decide) fun v => ?_
  exact hk _ _ _ _

/-- The first two blocks stored, the barrier passed, the first transfer made. -/
theorem part2 (v2 v3 v4 v15 : BitVec 32) {kont : _ → Prog (TpuEff nD τ sig (Elt F) Λ₀ .tc) α}
    (hk : Sx m ρ K c true [6, 0] [] [6, 1, 7, 2, 8, 3, 9, 10, 4, 11, 5] [] out ⊢ WP c (kont ⟨⟩) Q) :
    Sx m ρ K c false [] [] [0, 6, 1, 7, 2, 8, 3, 9, 10, 4, 11, 5] [] out ⊢ WP c (k0_part2 xM h0 wM h1 oM h2 outB h3 insB h4 cc0_scratch2 cc0_scratch3 c v3 v4 v15 (SemArray.scalar (sig.barrier 0 rfl)) (k0_pay1 (xd m ρ c) (w0 m ρ c)) >>= kont) Q := by
  rw [k0_part2_eq_skeleton]; unfold k0_part2_skel
  simp only [semSignalWord, semWaitWord, Prog.lift, Prog.bind_op, Prog.bind_ret, Prog.pure_eq_ret, wp_deviceId]
  refine step_storeOut m ρ 0 (by decide) (by decide) (by decide) rfl ?_
  refine step_loadX m ρ _ _ ?_
  refine step_loadW m ρ _ _ ?_
  refine step_loadOut m ρ 6 (by decide) (by decide) fun v => ?_
  refine step_storeOut m ρ 6 (by decide) (by decide) (by decide) rfl ?_
  refine step_waitBar m ρ (by decide) ?_
  refine step_send m ρ 0 (by decide) (by decide) (by decide) _ (dev3_eq c) ?_
  exact hk

/-- Slot 6 sent, slot 1 stored and sent. -/
theorem part3 (v2 v3 v4 v15 : BitVec 32) {kont : _ → Prog (TpuEff nD τ sig (Elt F) Λ₀ .tc) α}
    (hk : Sx m ρ K c true [1, 6, 0] [] [7, 2, 8, 3, 9, 10, 4, 11, 5] [] out ⊢ WP c (kont (k0_pay4 (xd m ρ c) (w3 m ρ c))) Q) :
    Sx m ρ K c true [6, 0] [] [6, 1, 7, 2, 8, 3, 9, 10, 4, 11, 5] [] out ⊢ WP c (k0_part3 xM h0 wM h1 oM h2 outB h3 insB h4 cc0_scratch2 cc0_scratch3 c v3 v15 >>= kont) Q := by
  rw [k0_part3_eq_skeleton]; unfold k0_part3_skel
  simp only [semSignalWord, semWaitWord, Prog.lift, Prog.bind_op, Prog.bind_ret, Prog.pure_eq_ret, wp_deviceId]
  refine step_send m ρ 6 (by decide) (by decide) (by decide) _ (dev4_eq c) ?_
  refine step_loadX m ρ _ _ ?_
  refine step_loadW m ρ _ _ ?_
  refine step_loadOut m ρ 1 (by decide) (by decide) fun v => ?_
  refine step_storeOut m ρ 1 (by decide) (by decide) (by decide) rfl ?_
  refine step_send m ρ 1 (by decide) (by decide) (by decide) _ (dev5_eq c) ?_
  refine step_loadX m ρ _ _ ?_
  refine step_loadW m ρ _ _ ?_
  exact hk

/-- Slot 7 stored and sent, slot 2 stored. -/
theorem part4 (v2 v3 v4 v15 : BitVec 32) {kont : _ → Prog (TpuEff nD τ sig (Elt F) Λ₀ .tc) α}
    (hk : Sx m ρ K c true [2, 7, 1, 6, 0] [] [2, 8, 3, 9, 10, 4, 11, 5] [] out ⊢ WP c (kont ⟨⟩) Q) :
    Sx m ρ K c true [1, 6, 0] [] [7, 2, 8, 3, 9, 10, 4, 11, 5] [] out ⊢ WP c (k0_part4 xM h0 wM h1 oM h2 outB h3 insB h4 cc0_scratch2 cc0_scratch3 c v3 v4 (k0_pay4 (xd m ρ c) (w3 m ρ c)) >>= kont) Q := by
  rw [k0_part4_eq_skeleton]; unfold k0_part4_skel
  simp only [semSignalWord, semWaitWord, Prog.lift, Prog.bind_op, Prog.bind_ret, Prog.pure_eq_ret, wp_deviceId]
  refine step_loadOut m ρ 7 (by decide) (by decide) fun v => ?_
  refine step_storeOut m ρ 7 (by decide) (by decide) (by decide) rfl ?_
  refine step_send m ρ 7 (by decide) (by decide) (by decide) _ (dev6_eq c) ?_
  refine step_loadX m ρ _ _ ?_
  refine step_loadW m ρ _ _ ?_
  refine step_loadOut m ρ 2 (by decide) (by decide) fun v => ?_
  refine step_storeOut m ρ 2 (by decide) (by decide) (by decide) rfl ?_
  exact hk

/-- Slot 2 sent, slot 8 stored and sent. -/
theorem part5 (v2 v3 v4 v15 : BitVec 32) {kont : _ → Prog (TpuEff nD τ sig (Elt F) Λ₀ .tc) α}
    (hk : Sx m ρ K c true [8, 2, 7, 1, 6, 0] [] [3, 9, 10, 4, 11, 5] [] out ⊢ WP c (kont ⟨k0_pay8 (xx m ρ c), k0_pay9 (w1 m ρ c)⟩) Q) :
    Sx m ρ K c true [2, 7, 1, 6, 0] [] [2, 8, 3, 9, 10, 4, 11, 5] [] out ⊢ WP c (k0_part5 xM h0 wM h1 oM h2 outB h3 insB h4 cc0_scratch2 cc0_scratch3 c v3 v4 >>= kont) Q := by
  rw [k0_part5_eq_skeleton]; unfold k0_part5_skel
  simp only [semSignalWord, semWaitWord, Prog.lift, Prog.bind_op, Prog.bind_ret, Prog.pure_eq_ret, wp_deviceId]
  refine step_send m ρ 2 (by decide) (by decide) (by decide) _ (dev7_eq c) ?_
  refine step_loadX m ρ _ _ ?_
  refine step_loadW m ρ _ _ ?_
  refine step_loadOut m ρ 8 (by decide) (by decide) fun v => ?_
  refine step_storeOut m ρ 8 (by decide) (by decide) (by decide) rfl ?_
  refine step_send m ρ 8 (by decide) (by decide) (by decide) _ (dev8_eq c) ?_
  refine step_loadX m ρ _ _ ?_
  refine step_loadW m ρ _ _ ?_
  exact hk

/-- Slot 3 stored and sent, slot 9 stored. -/
theorem part6 (v2 v3 v4 v15 : BitVec 32) {kont : _ → Prog (TpuEff nD τ sig (Elt F) Λ₀ .tc) α}
    (hk : Sx m ρ K c true [9, 3, 8, 2, 7, 1, 6, 0] [] [9, 10, 4, 11, 5] [] out ⊢ WP c (kont ⟨⟩) Q) :
    Sx m ρ K c true [8, 2, 7, 1, 6, 0] [] [3, 9, 10, 4, 11, 5] [] out ⊢ WP c (k0_part6 xM h0 wM h1 oM h2 outB h3 insB h4 cc0_scratch2 cc0_scratch3 c v3 v4 (k0_pay8 (xx m ρ c)) (k0_pay9 (w1 m ρ c)) >>= kont) Q := by
  rw [k0_part6_eq_skeleton]; unfold k0_part6_skel
  simp only [semSignalWord, semWaitWord, Prog.lift, Prog.bind_op, Prog.bind_ret, Prog.pure_eq_ret, wp_deviceId]
  refine step_loadOut m ρ 3 (by decide) (by decide) fun v => ?_
  refine step_storeOut m ρ 3 (by decide) (by decide) (by decide) rfl ?_
  refine step_send m ρ 3 (by decide) (by decide) (by decide) _ (dev9_eq c) ?_
  refine step_loadX m ρ _ _ ?_
  refine step_loadW m ρ _ _ ?_
  refine step_loadOut m ρ 9 (by decide) (by decide) fun v => ?_
  refine step_storeOut m ρ 9 (by decide) (by decide) (by decide) rfl ?_
  exact hk

/-- Slot 9 sent, the products that wait for arrivals computed. -/
theorem part7 (v2 v3 v4 v15 : BitVec 32) {kont : _ → Prog (TpuEff nD τ sig (Elt F) Λ₀ .tc) α}
    (hk : Sx m ρ K c true [9, 3, 8, 2, 7, 1, 6, 0] [] [10, 4, 11, 5] [] out ⊢ WP c (kont ⟨k0_pay12 (xy m ρ c) (w0 m ρ c), k0_pay13 (xy m ρ c) (w1 m ρ c), k0_pay14 (xx m ρ c) (w2 m ρ c), k0_pay15 (xx m ρ c) (w3 m ρ c)⟩) Q) :
    Sx m ρ K c true [9, 3, 8, 2, 7, 1, 6, 0] [] [9, 10, 4, 11, 5] [] out ⊢ WP c (k0_part7 xM h0 wM h1 oM h2 outB h3 insB h4 cc0_scratch2 cc0_scratch3 c v3 v4 >>= kont) Q := by
  rw [k0_part7_eq_skeleton]; unfold k0_part7_skel
  simp only [semSignalWord, semWaitWord, Prog.lift, Prog.bind_op, Prog.bind_ret, Prog.pure_eq_ret, wp_deviceId]
  refine step_send m ρ 9 (by decide) (by decide) (by decide) _ (dev10_eq c) ?_
  refine step_loadX m ρ _ _ ?_
  refine step_loadW m ρ _ _ ?_
  refine step_loadX m ρ _ _ ?_
  refine step_loadW m ρ _ _ ?_
  refine step_loadX m ρ _ _ ?_
  refine step_loadW m ρ _ _ ?_
  refine step_loadX m ρ _ _ ?_
  refine step_loadW m ρ _ _ ?_
  exact hk

/-- The arrival of slot 0 added into slot 10, sent on. -/
theorem part8 (v2 v3 v4 v15 : BitVec 32) {kont : _ → Prog (TpuEff nD τ sig (Elt F) Λ₀ .tc) α}
    (hk : Sx m ρ K c true [10, 9, 3, 8, 2, 7, 1, 6, 0] [] [4, 11, 5] [0] out ⊢ WP c (kont 1#32) Q) :
    Sx m ρ K c true [9, 3, 8, 2, 7, 1, 6, 0] [] [10, 4, 11, 5] [] out ⊢ WP c (k0_part8 xM h0 wM h1 oM h2 outB h3 insB h4 cc0_scratch2 cc0_scratch3 c v2 v4 (k0_pay12 (xy m ρ c) (w0 m ρ c)) >>= kont) Q := by
  rw [k0_part8_eq_skeleton]; unfold k0_part8_skel
  simp only [semSignalWord, semWaitWord, Prog.lift, Prog.bind_op, Prog.bind_ret, Prog.pure_eq_ret, wp_deviceId]
  refine step_waitRecv m ρ 0 (by decide) (by decide) ?_
  refine step_loadIns m ρ 0 (by decide) ?_
  refine step_loadOut m ρ 10 (by decide) (by decide) fun v => ?_
  refine step_storeOut m ρ 10 (by decide) (by decide) (by decide) rfl ?_
  refine step_send m ρ 10 (by decide) (by decide) (by decide) _ (dev11_eq c) ?_
  exact hk

/-- The arrival of slot 6 added into slot 4, sent on. -/
theorem part9 (v2 v3 v4 v15 : BitVec 32) {kont : _ → Prog (TpuEff nD τ sig (Elt F) Λ₀ .tc) α}
    (hk : Sx m ρ K c true [4, 10, 9, 3, 8, 2, 7, 1, 6, 0] [] [11, 5] [6, 0] out ⊢ WP c (kont ⟨⟩) Q) :
    Sx m ρ K c true [10, 9, 3, 8, 2, 7, 1, 6, 0] [] [4, 11, 5] [0] out ⊢ WP c (k0_part9 xM h0 wM h1 oM h2 outB h3 insB h4 cc0_scratch2 cc0_scratch3 c v2 v3 (k0_pay14 (xx m ρ c) (w2 m ρ c)) 1#32 >>= kont) Q := by
  rw [k0_part9_eq_skeleton]; unfold k0_part9_skel
  simp only [semSignalWord, semWaitWord, Prog.lift, Prog.bind_op, Prog.bind_ret, Prog.pure_eq_ret, wp_deviceId]
  refine step_waitRecv m ρ 6 (by decide) (by decide) ?_
  refine step_loadIns m ρ 6 (by decide) ?_
  refine step_loadOut m ρ 4 (by decide) (by decide) fun v => ?_
  refine step_storeOut m ρ 4 (by decide) (by decide) (by decide) rfl ?_
  refine step_send m ρ 4 (by decide) (by decide) (by decide) _ (dev12_eq c) ?_
  exact hk

/-- The arrival of slot 1 added into slot 11, sent on. -/
theorem part10 (v2 v3 v4 v15 : BitVec 32) {kont : _ → Prog (TpuEff nD τ sig (Elt F) Λ₀ .tc) α}
    (hk : Sx m ρ K c true [11, 4, 10, 9, 3, 8, 2, 7, 1, 6, 0] [] [5] [1, 6, 0] out ⊢ WP c (kont ⟨⟩) Q) :
    Sx m ρ K c true [4, 10, 9, 3, 8, 2, 7, 1, 6, 0] [] [11, 5] [6, 0] out ⊢ WP c (k0_part10 xM h0 wM h1 oM h2 outB h3 insB h4 cc0_scratch2 cc0_scratch3 c v2 v4 (k0_pay13 (xy m ρ c) (w1 m ρ c)) >>= kont) Q := by
  rw [k0_part10_eq_skeleton]; unfold k0_part10_skel
  simp only [semSignalWord, semWaitWord, Prog.lift, Prog.bind_op, Prog.bind_ret, Prog.pure_eq_ret, wp_deviceId]
  refine step_waitRecv m ρ 1 (by decide) (by decide) ?_
  refine step_loadIns m ρ 1 (by decide) ?_
  refine step_loadOut m ρ 11 (by decide) (by decide) fun v => ?_
  refine step_storeOut m ρ 11 (by decide) (by decide) (by decide) rfl ?_
  refine step_send m ρ 11 (by decide) (by decide) (by decide) _ (dev13_eq c) ?_
  exact hk

/-- The arrival of slot 7 added into slot 5, sent on; nothing is owed any more. -/
theorem part11 (v2 v3 v4 v15 : BitVec 32) {kont : _ → Prog (TpuEff nD τ sig (Elt F) Λ₀ .tc) α}
    (hk : Sx m ρ K c true [5, 11, 4, 10, 9, 3, 8, 2, 7, 1, 6, 0] [] [] [7, 1, 6, 0] out ⊢ WP c (kont (k0_pay20 (xm m ρ c) (w0 m ρ c))) Q) :
    Sx m ρ K c true [11, 4, 10, 9, 3, 8, 2, 7, 1, 6, 0] [] [5] [1, 6, 0] out ⊢ WP c (k0_part11 xM h0 wM h1 oM h2 outB h3 insB h4 cc0_scratch2 cc0_scratch3 c v2 v3 (k0_pay15 (xx m ρ c) (w3 m ρ c)) >>= kont) Q := by
  rw [k0_part11_eq_skeleton]; unfold k0_part11_skel
  simp only [semSignalWord, semWaitWord, Prog.lift, Prog.bind_op, Prog.bind_ret, Prog.pure_eq_ret, wp_deviceId]
  refine step_waitRecv m ρ 7 (by decide) (by decide) ?_
  refine step_loadIns m ρ 7 (by decide) ?_
  refine step_loadOut m ρ 5 (by decide) (by decide) fun v => ?_
  refine step_storeOut m ρ 5 (by decide) (by decide) (by decide) rfl ?_
  refine step_send m ρ 5 (by decide) (by decide) (by decide) _ (dev14_eq c) ?_
  refine step_loadX m ρ _ _ ?_
  refine step_loadW m ρ _ _ ?_
  exact hk

/-- The arrivals of slots 2 and 8 added to the device's own products. -/
theorem part12 (v2 v3 v4 v15 : BitVec 32) {kont : _ → Prog (TpuEff nD τ sig (Elt F) Λ₀ .tc) α}
    (hk : Sx m ρ K c true [5, 11, 4, 10, 9, 3, 8, 2, 7, 1, 6, 0] [] [] [8, 2, 7, 1, 6, 0] out ⊢ WP c (kont ⟨k0_pay21 (k0_pay20 (xm m ρ c) (w0 m ρ c)) (recvV m ρ c 2), k0_pay22 (xm m ρ c) (w2 m ρ c) (recvV m ρ c 8)⟩) Q) :
    Sx m ρ K c true [5, 11, 4, 10, 9, 3, 8, 2, 7, 1, 6, 0] [] [] [7, 1, 6, 0] out ⊢ WP c (k0_part12 xM h0 wM h1 oM h2 outB h3 insB h4 cc0_scratch2 cc0_scratch3 c v2 (k0_pay20 (xm m ρ c) (w0 m ρ c)) >>= kont) Q := by
  rw [k0_part12_eq_skeleton]; unfold k0_part12_skel
  simp only [semSignalWord, semWaitWord, Prog.lift, Prog.bind_op, Prog.bind_ret, Prog.pure_eq_ret, wp_deviceId]
  refine step_waitRecv m ρ 2 (by decide) (by decide) ?_
  refine step_loadIns m ρ 2 (by decide) ?_
  refine step_loadX m ρ _ _ ?_
  refine step_loadW m ρ _ _ ?_
  refine step_waitRecv m ρ 8 (by decide) (by decide) ?_
  refine step_loadIns m ρ 8 (by decide) ?_
  exact hk

/-- The arrival of slot 3 added to the device's own product. -/
theorem part13 (v2 v3 v4 v15 : BitVec 32) {kont : _ → Prog (TpuEff nD τ sig (Elt F) Λ₀ .tc) α}
    (hk : Sx m ρ K c true [5, 11, 4, 10, 9, 3, 8, 2, 7, 1, 6, 0] [] [] [3, 8, 2, 7, 1, 6, 0] out ⊢ WP c (kont ⟨k0_pay23 (xm m ρ c) (w1 m ρ c) (recvV m ρ c 3), k0_pay24 (xm m ρ c) (w3 m ρ c)⟩) Q) :
    Sx m ρ K c true [5, 11, 4, 10, 9, 3, 8, 2, 7, 1, 6, 0] [] [] [8, 2, 7, 1, 6, 0] out ⊢ WP c (k0_part13 xM h0 wM h1 oM h2 outB h3 insB h4 cc0_scratch2 cc0_scratch3 c v2 >>= kont) Q := by
  rw [k0_part13_eq_skeleton]; unfold k0_part13_skel
  simp only [semSignalWord, semWaitWord, Prog.lift, Prog.bind_op, Prog.bind_ret, Prog.pure_eq_ret, wp_deviceId]
  refine step_loadX m ρ _ _ ?_
  refine step_loadW m ρ _ _ ?_
  refine step_waitRecv m ρ 3 (by decide) (by decide) ?_
  refine step_loadIns m ρ 3 (by decide) ?_
  refine step_loadX m ρ _ _ ?_
  refine step_loadW m ρ _ _ ?_
  exact hk

/-- The arrivals of slots 9 and 10; the first quarter of the result. -/
theorem part14 (v2 v3 v4 v15 : BitVec 32) {kont : _ → Prog (TpuEff nD τ sig (Elt F) Λ₀ .tc) α}
    (hk : Sx m ρ K c true [5, 11, 4, 10, 9, 3, 8, 2, 7, 1, 6, 0] [] [] [10, 9, 3, 8, 2, 7, 1, 6, 0] (out1 m ρ c out) ⊢ WP c (kont (k0_pay25 (k0_pay24 (xm m ρ c) (w3 m ρ c)) (recvV m ρ c 9))) Q) :
    Sx m ρ K c true [5, 11, 4, 10, 9, 3, 8, 2, 7, 1, 6, 0] [] [] [3, 8, 2, 7, 1, 6, 0] out ⊢ WP c (k0_part14 xM h0 wM h1 oM h2 outB h3 insB h4 cc0_scratch2 cc0_scratch3 v2 (k0_pay21 (k0_pay20 (xm m ρ c) (w0 m ρ c)) (recvV m ρ c 2)) (k0_pay24 (xm m ρ c) (w3 m ρ c)) >>= kont) Q := by
  rw [k0_part14_eq_skeleton]; unfold k0_part14_skel
  simp only [semSignalWord, semWaitWord, Prog.lift, Prog.bind_op, Prog.bind_ret, Prog.pure_eq_ret, wp_deviceId]
  refine step_waitRecv m ρ 9 (by decide) (by decide) ?_
  refine step_loadIns m ρ 9 (by decide) ?_
  refine step_waitRecv m ρ 10 (by decide) (by decide) ?_
  refine step_loadIns m ρ 10 (by decide) ?_
  refine step_loadO m ρ _ _ fun v => ?_
  refine step_storeO m ρ _ ?_
  exact hk

/-- The arrivals of slots 4 and 11; two more quarters of the result. -/
theorem part15 (v2 v3 v4 v15 : BitVec 32) {kont : _ → Prog (TpuEff nD τ sig (Elt F) Λ₀ .tc) α}
    (hk : Sx m ρ K c true [5, 11, 4, 10, 9, 3, 8, 2, 7, 1, 6, 0] [] [] [11, 4, 10, 9, 3, 8, 2, 7, 1, 6, 0] (out3 m ρ c out) ⊢ WP c (kont ⟨⟩) Q) :
    Sx m ρ K c true [5, 11, 4, 10, 9, 3, 8, 2, 7, 1, 6, 0] [] [] [10, 9, 3, 8, 2, 7, 1, 6, 0] (out1 m ρ c out) ⊢ WP c (k0_part15 xM h0 wM h1 oM h2 outB h3 insB h4 cc0_scratch2 cc0_scratch3 v2 (k0_pay22 (xm m ρ c) (w2 m ρ c) (recvV m ρ c 8)) (k0_pay23 (xm m ρ c) (w1 m ρ c) (recvV m ρ c 3)) >>= kont) Q := by
  rw [k0_part15_eq_skeleton]; unfold k0_part15_skel
  simp only [semSignalWord, semWaitWord, Prog.lift, Prog.bind_op, Prog.bind_ret, Prog.pure_eq_ret, wp_deviceId]
  refine step_waitRecv m ρ 4 (by decide) (by decide) ?_
  refine step_loadIns m ρ 4 (by decide) ?_
  refine step_loadO m ρ _ _ fun v => ?_
  refine step_storeO m ρ _ ?_
  refine step_waitRecv m ρ 11 (by decide) (by decide) ?_
  refine step_loadIns m ρ 11 (by decide) ?_
  refine step_loadO m ρ _ _ fun v => ?_
  refine step_storeO m ρ _ ?_
  exact hk

/-- The arrival of slot 5 and the last quarter; the first two transfers completed. -/
theorem part16 {kont : _ → Prog (TpuEff nD τ sig (Elt F) Λ₀ .tc) α}
    (hk : Sx m ρ K c true [5, 11, 4, 10, 9, 3, 8, 2, 7, 1, 6, 0] [1, 0] [] [5, 11, 4, 10, 9, 3, 8, 2, 7, 1, 6, 0] (out4 m ρ c out) ⊢ WP c (kont ⟨⟩) Q) :
    Sx m ρ K c true [5, 11, 4, 10, 9, 3, 8, 2, 7, 1, 6, 0] [] [] [11, 4, 10, 9, 3, 8, 2, 7, 1, 6, 0] (out3 m ρ c out) ⊢ WP c (k0_part16 xM h0 wM h1 oM h2 outB h3 insB h4 cc0_scratch2 cc0_scratch3 (k0_pay25 (k0_pay24 (xm m ρ c) (w3 m ρ c)) (recvV m ρ c 9)) >>= kont) Q := by
  rw [k0_part16_eq_skeleton]; unfold k0_part16_skel
  simp only [semSignalWord, semWaitWord, Prog.lift, Prog.bind_op, Prog.bind_ret, Prog.pure_eq_ret, wp_deviceId]
  refine step_waitRecv m ρ 5 (by decide) (by decide) ?_
  refine step_loadIns m ρ 5 (by decide) ?_
  refine step_loadO m ρ _ _ fun v => ?_
  refine step_storeO m ρ _ ?_
  refine step_waitSend m ρ 0 (by decide) ?_
  refine step_waitSend m ρ 1 (by decide) ?_
  exact hk

/-- Four more transfers completed. -/
theorem part17 {kont : _ → Prog (TpuEff nD τ sig (Elt F) Λ₀ .tc) α}
    (hk : Sx m ρ K c true [5, 11, 4, 10, 9, 3, 8, 2, 7, 1, 6, 0] [5, 4, 3, 2, 1, 0] [] [5, 11, 4, 10, 9, 3, 8, 2, 7, 1, 6, 0] (out4 m ρ c out) ⊢ WP c (kont ⟨⟩) Q) :
    Sx m ρ K c true [5, 11, 4, 10, 9, 3, 8, 2, 7, 1, 6, 0] [1, 0] [] [5, 11, 4, 10, 9, 3, 8, 2, 7, 1, 6, 0] (out4 m ρ c out) ⊢ WP c (k0_part17 xM h0 wM h1 oM h2 outB h3 insB h4 cc0_scratch2 cc0_scratch3 >>= kont) Q := by
  rw [k0_part17_eq_skeleton]; unfold k0_part17_skel
  simp only [semSignalWord, semWaitWord, Prog.lift, Prog.bind_op, Prog.bind_ret, Prog.pure_eq_ret, wp_deviceId]
  refine step_waitSend m ρ 2 (by decide) ?_
  refine step_waitSend m ρ 3 (by decide) ?_
  refine step_waitSend m ρ 4 (by decide) ?_
  refine step_waitSend m ρ 5 (by decide) ?_
  exact hk

/-- Three more transfers completed. -/
theorem part18 {kont : _ → Prog (TpuEff nD τ sig (Elt F) Λ₀ .tc) α}
    (hk : Sx m ρ K c true [5, 11, 4, 10, 9, 3, 8, 2, 7, 1, 6, 0] [8, 7, 6, 5, 4, 3, 2, 1, 0] [] [5, 11, 4, 10, 9, 3, 8, 2, 7, 1, 6, 0] (out4 m ρ c out) ⊢ WP c (kont ⟨⟩) Q) :
    Sx m ρ K c true [5, 11, 4, 10, 9, 3, 8, 2, 7, 1, 6, 0] [5, 4, 3, 2, 1, 0] [] [5, 11, 4, 10, 9, 3, 8, 2, 7, 1, 6, 0] (out4 m ρ c out) ⊢ WP c (k0_part18 xM h0 wM h1 oM h2 outB h3 insB h4 cc0_scratch2 cc0_scratch3 >>= kont) Q := by
  rw [k0_part18_eq_skeleton]; unfold k0_part18_skel
  simp only [semSignalWord, semWaitWord, Prog.lift, Prog.bind_op, Prog.bind_ret, Prog.pure_eq_ret, wp_deviceId]
  refine step_waitSend m ρ 6 (by decide) ?_
  refine step_waitSend m ρ 7 (by decide) ?_
  refine step_waitSend m ρ 8 (by decide) ?_
  exact hk

/-- The whole body, from what a device holds at the start to every semaphore closed and the result staged. -/
theorem body_run {Q' : PUnit → sProp (MT nD τ sig Unit (Elt F) ℕ UU ℕ)}
    (hk : Sx m ρ K c true [5, 11, 4, 10, 9, 3, 8, 2, 7, 1, 6, 0] [11, 10, 9, 8, 7, 6, 5, 4, 3, 2, 1, 0] [] [5, 11, 4, 10, 9, 3, 8, 2, 7, 1, 6, 0] (out4 m ρ c out) ⊢ Q' ⟨⟩) :
    Sstart m ρ K c out ⊢ WP c (cc0_body xM h0 wM h1 oM h2 outB h3 insB h4 cc0_scratch2 cc0_scratch3) Q' := by
  rw [cc0_body_eq_skeleton]; unfold cc0_body_skel
  refine part1 m ρ fun v2 v3 v4 v15 => ?_
  refine part2 m ρ v2 v3 v4 v15 ?_
  refine part3 m ρ v2 v3 v4 v15 ?_
  refine part4 m ρ v2 v3 v4 v15 ?_
  refine part5 m ρ v2 v3 v4 v15 ?_
  refine part6 m ρ v2 v3 v4 v15 ?_
  refine part7 m ρ v2 v3 v4 v15 ?_
  refine part8 m ρ v2 v3 v4 v15 ?_
  refine part9 m ρ v2 v3 v4 v15 ?_
  refine part10 m ρ v2 v3 v4 v15 ?_
  refine part11 m ρ v2 v3 v4 v15 ?_
  refine part12 m ρ v2 v3 v4 v15 ?_
  refine part13 m ρ v2 v3 v4 v15 ?_
  refine part14 m ρ v2 v3 v4 v15 ?_
  refine part15 m ρ v2 v3 v4 v15 ?_
  refine part16 m ρ ?_
  refine part17 m ρ ?_
  refine part18 m ρ ?_
  simp only [Prog.lift, Prog.bind_op, Prog.bind_ret, Prog.pure_eq_ret]
  refine step_waitSend m ρ 9 (by decide) ?_
  refine step_waitSend m ρ 10 (by decide) ?_
  refine step_waitSend m ρ 11 (by decide) ?_
  unfold WP
  rw [wp_ret]
  iintro H; imodintro; iapply hk; iexact H

end Parts

end Cert.KernelIdealProof

end
-- ==== Proof.KernelIdeal.Launch.lean ====
/-
The launch of `KernelIdeal`: the pipeline's proof data, the body's obligation, the semaphores' invariants allocated and the
payment rights dealt, and the run of @main with what it leaves in the arrays.
-/
module

public import proofs.«01_k».proof.Proof.KernelIdeal.Parts
public import proofs.«01_k».proof.Proof.Gen.KernelIdeal.Points
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The result -/

/-- The place in its column quarter of an element of the result. -/
def colIdx (i : S256x1024.Idx) : S256x256.Idx := fun
  | (0 : Fin 2) => i (0 : Fin 2)
  | (1 : Fin 2) => (⟨(i (1 : Fin 2)).val % 256, Nat.mod_lt _ (by decide)⟩ : Fin 256)

/-- The kernel's result on device `c`: column quarters `res0`, `res1`, `res2`, `res3`. -/
def outAt (c : Dev nD) : (cc0_stg2_0 : Ref sig .tc).ty.Contents (Elt F) := fun i =>
  if (i (1 : Fin 2)).val < 256 then res0 m ρ c (colIdx i) else if (i (1 : Fin 2)).val < 512 then res1 m ρ c (colIdx i)
  else if (i (1 : Fin 2)).val < 768 then res2 m ρ c (colIdx i) else res3 m ρ c (colIdx i)

/-- Inside the replaced columns `putO` is `v`. -/
theorem putO_in (out : (cc0_stg2_0 : Ref sig .tc).ty.Contents (Elt F)) (o : ℕ) (h : ∀ a, (![0, o] : Fin 2 → ℕ) a + S256x256.size a ≤ S256x1024.size a)
    (v : FVec F S256x256 .f32) (i : S256x1024.Idx) (j : S256x256.Idx) (h0 : (i (0 : Fin 2)).val = (j (0 : Fin 2)).val)
    (h1 : (i (1 : Fin 2)).val = o + (j (1 : Fin 2)).val) : putO out ![0, o] h v i = v j := by
  have hi : (oM.access (Rect.unit (s := S256x1024) ![0, o] S256x256.size h) : View sig .tc _ _ _).emb j = i := by
    funext a
    fin_cases a
    · exact Fin.ext (show 0 + 1 * (j (0 : Fin 2)).val = (i (0 : Fin 2)).val by omega)
    · exact Fin.ext (show o + 1 * (j (1 : Fin 2)).val = (i (1 : Fin 2)).val by omega)
  rw [← hi]
  exact View.write_emb_of_mem (Val := Elt F) (v := (oM.access (Rect.unit (s := S256x1024) ![0, o] S256x256.size h) : View sig .tc _ _ _)) out _ (x := j) (Finset.mem_univ _)
/-- Outside the replaced columns `putO` changes nothing. -/
theorem putO_out (out : (cc0_stg2_0 : Ref sig .tc).ty.Contents (Elt F)) (o : ℕ) (h : ∀ a, (![0, o] : Fin 2 → ℕ) a + S256x256.size a ≤ S256x1024.size a)
    (v : FVec F S256x256 .f32) (i : S256x1024.Idx) (h1 : (i (1 : Fin 2)).val < o ∨ o + 256 ≤ (i (1 : Fin 2)).val) : putO out ![0, o] h v i = out i := by
  refine View.write_of_not_mem (Val := Elt F) (v := (oM.access (Rect.unit (s := S256x1024) ![0, o] S256x256.size h) : View sig .tc _ _ _)) out _ _ fun hm => ?_
  obtain ⟨j, -, hj⟩ := Finset.mem_map.mp hm
  have hj1 : o + 1 * (j (1 : Fin 2)).val = (i (1 : Fin 2)).val := congrArg (fun x : S256x1024.Idx => (x (1 : Fin 2)).val) hj
  have hlt : (j (1 : Fin 2)).val < 256 := (j (1 : Fin 2)).isLt
  omega

/-- The four stores fill the whole staged result, whatever it held. -/
theorem out4_eq (c : Dev nD) (out : (cc0_stg2_0 : Ref sig .tc).ty.Contents (Elt F)) : out4 m ρ c out = outAt m ρ c := by
  funext i
  have hlt : (i (1 : Fin 2)).val < 1024 := (i (1 : Fin 2)).isLt
  unfold out4 out3 out1 outAt
  by_cases h0 : (i (1 : Fin 2)).val < 256
  · rw [if_pos h0, putO_out _ _ _ _ _ (.inl (by omega)), putO_out _ _ _ _ _ (.inl (by omega)), putO_out _ _ _ _ _ (.inl (by omega))]
    exact putO_in _ _ _ _ _ _ rfl (show (i (1 : Fin 2)).val = 0 + (i (1 : Fin 2)).val % 256 by omega)
  rw [if_neg h0]
  by_cases h1 : (i (1 : Fin 2)).val < 512
  · rw [if_pos h1, putO_out _ _ _ _ _ (.inl (by omega))]
    exact putO_in _ _ _ _ _ _ rfl (show (i (1 : Fin 2)).val = 256 + (i (1 : Fin 2)).val % 256 by omega)
  rw [if_neg h1]
  by_cases h2 : (i (1 : Fin 2)).val < 768
  · rw [if_pos h2, putO_out _ _ _ _ _ (.inl (by omega)), putO_out _ _ _ _ _ (.inr (by omega))]
    exact putO_in _ _ _ _ _ _ rfl (show (i (1 : Fin 2)).val = 512 + (i (1 : Fin 2)).val % 256 by omega)
  rw [if_neg h2]
  exact putO_in _ _ _ _ _ _ rfl (show (i (1 : Fin 2)).val = 768 + (i (1 : Fin 2)).val % 256 by omega)

/-! ## Conjunctions over the protocol's index types -/

omit [FloatOps F] in
theorem bigSep_bool_fin (Φ : Bool × Fin 12 → sProp 𝕄) :
    bigSep Finset.univ Φ = iprop((bigSep Finset.univ fun k : Fin 12 => Φ (false, k)) ∗ bigSep Finset.univ fun k : Fin 12 => Φ (true, k)) := by
  rw [bigSep_univ_prod, bigSep_univ_eq_bigSepL [false, true] (by decide) (by decide), bigSepL_cons_cons, bigSepL_singleton]
  rfl
omit [FloatOps F] in
theorem bigSep_option (Φ : Option (Bool × Fin 12) → sProp 𝕄) :
    bigSep Finset.univ Φ = iprop(Φ none ∗ (bigSep Finset.univ fun k : Fin 12 => Φ (some (false, k))) ∗ bigSep Finset.univ fun k : Fin 12 => Φ (some (true, k))) := by
  rw [bigSep_univ_at Φ none, show (Finset.univ : Finset (Option (Bool × Fin 12))).erase none = Finset.univ.map Function.Embedding.some by decide,
    bigSep_map, bigSep_bool_fin]
  rfl
omit [FloatOps F] in
theorem bigSep_sum_keys (Φ : Bool ⊕ (Bool × Fin 12) → sProp 𝕄) :
    bigSep Finset.univ Φ = iprop((Φ (.inl true) ∗ Φ (.inl false))
      ∗ (bigSep Finset.univ fun k : Fin 12 => Φ (.inr (false, k))) ∗ bigSep Finset.univ fun k : Fin 12 => Φ (.inr (true, k))) := by
  rw [bigSep_univ_sum, bigSep_univ_eq_bigSepL [true, false] (by decide) (by decide), bigSepL_cons_cons, bigSepL_singleton, bigSep_bool_fin]
  rfl

/-! ## Buffers slot by slot -/

theorem slots_disjoint (k k' : Fin 12) (h : k ≠ k') : Disjoint (rk k).set (rk k').set :=
  Ring.lead_disjoint (s := S12x256x256) (NB := 12) (0 : Fin 3) 1 (fun k => ![k.val, 0, 0]) S1x256x256.size inbB (fun k => (Nat.one_mul _).symm) rfl k k' h
theorem slots_cover : Finset.univ.biUnion (fun k => (rk k).set) = (Finset.univ : Finset S12x256x256.Idx) :=
  Ring.lead_cover (s := S12x256x256) (NB := 12) (0 : Fin 3) 1 (fun k => ![k.val, 0, 0]) S1x256x256.size inbB (fun k => (Nat.one_mul _).symm)
    (fun k a ha => by fin_cases a <;> first | exact absurd rfl ha | rfl) rfl
    (fun a ha => by fin_cases a <;> first | exact absurd rfl ha | rfl) rfl

omit [FloatOps F] in
/-- The whole buffer of outgoing blocks is its twelve slots. -/
theorem outs_slots (c : Dev nD) (f : Buf (Elt F) ((c : Thread nD τ).loc cc0_scratch0)) :
    (((c : Thread nD τ).loc cc0_scratch0) ↦{fullShare} f : sProp 𝕄) = bigSep Finset.univ fun k => outPts c k f := by
  rw [Ring.pointsTo_blocks (fun k : Fin 12 => (rk k).set) slots_disjoint slots_cover f]
  exact bigSep_congr fun k _ => by unfold outPts; rw [out_set]
omit [FloatOps F] in
/-- The whole buffer of arriving blocks is its twelve slots. -/
theorem ins_slots (c : Dev nD) (f : Buf (Elt F) ((c : Thread nD τ).loc cc0_scratch1)) :
    (((c : Thread nD τ).loc cc0_scratch1) ↦{fullShare} f : sProp 𝕄) = bigSep Finset.univ fun k => insPts c k f := by
  rw [Ring.pointsTo_blocks (fun k : Fin 12 => (rk k).set) slots_disjoint slots_cover f]
  exact bigSep_congr fun k _ => by unfold insPts; rw [ins_set]

omit [FloatOps F] in
/-- Slots all at one contents are slots each at some contents. -/
theorem outs_some (c : Dev nD) (f : Buf (Elt F) ((c : Thread nD τ).loc cc0_scratch0)) :
    (bigSep Finset.univ fun k => outPts c k f : sProp 𝕄) ⊢ bigSep Finset.univ fun k : Fin 12 => iprop(∃ f, outPts c k f) := by
  have h : ∀ k : Fin 12, (outPts c k f : sProp 𝕄) ⊢ iprop(∃ f, outPts c k f) := fun k => by iintro H; iexists f; iexact H
  exact bigSep_mono fun k _ => h k
omit [FloatOps F] in
theorem ins_some (c : Dev nD) (f : Buf (Elt F) ((c : Thread nD τ).loc cc0_scratch1)) :
    (bigSep Finset.univ fun k => insPts c k f : sProp 𝕄) ⊢ bigSep Finset.univ fun k : Fin 12 => iprop(∃ f, insPts c k f) := by
  have h : ∀ k : Fin 12, (insPts c k f : sProp 𝕄) ⊢ iprop(∃ f, insPts c k f) := fun k => by iintro H; iexists f; iexact H
  exact bigSep_mono fun k _ => h k

/-! ## The pipeline's proof data -/

/-- The rights to the payments device `c` makes: a unit to each neighbour's barrier, its own send semaphores, its
    partners' receive semaphores. -/
def payToks (c : Dev nD) : sProp 𝕄 :=
  iprop(dutyTok ER (barCell (xp c)) 0 true ∗ dutyTok ER (barCell (yp c)) 0 false
    ∗ (bigSep Finset.univ fun k : Fin 12 => dutyTok ER (sendCell c k) 0 false) ∗ bigSep Finset.univ fun k : Fin 12 => dutyTok ER (recvCell (peer c k) k) 0 false)

/-- Device `c`'s positions on its own semaphores and the rights to its payments. -/
def linear (c : Dev nD) : sProp 𝕄 :=
  iprop((atPos ER (barCell c) 0 ∅ 0 ∗ (bigSep Finset.univ fun k : Fin 12 => atPos ER (sendCell c k) 0 ∅ 0)
    ∗ bigSep Finset.univ fun k : Fin 12 => atPos ER (recvCell c k) 0 ∅ 0) ∗ payToks c)

/-- What the allocation of the invariants leaves device `c`. -/
def G' (c : Dev nD) : sProp 𝕄 := iprop(∃ K, records m ρ K ∗ linear c)

/-- What the body starts from, but for the buffers: that, the credit for its waits, the levels. -/
def start (c : Dev nD) : sProp 𝕄 :=
  iprop(G' m ρ c ∗ cred (tallyAt (barCell c) () 2) ∗ (bigSep Finset.univ fun k : Fin 12 => cred (tallyAt (recvCell c k) () N)) ∗ levAts L lv)

def Φ₀ (c : Dev nD) : sProp 𝕄 :=
  iprop(start m ρ c ∗ (bigSep Finset.univ fun k : Fin 12 => iprop(∃ f, outPts c k f)) ∗ bigSep Finset.univ fun k : Fin 12 => iprop(∃ f, insPts c k f))
/-- After the body: both buffers filled, every semaphore closed at zero. -/
def Φ₁ (c : Dev nD) : sProp 𝕄 :=
  iprop(semVal (barCell c) 0
    ∗ ((bigSep Finset.univ fun k : Fin 12 => outPts c k (outsBuf m ρ c)) ∗ bigSep Finset.univ fun k : Fin 12 => semVal (sendCell c k) 0)
    ∗ (bigSep Finset.univ fun k : Fin 12 => insPts c k (insBuf m ρ c)) ∗ bigSep Finset.univ fun k : Fin 12 => semVal (recvCell c k) 0)

theorem cfg0_N : cfg0.N = 1 := N_0
def t₀ : Fin cfg0.N := t0_0
theorem fin_N (t : Fin cfg0.N) : t = t₀ := fin_N0 t

/-- The proof data: the operands stay in their staging buffers, the result's holds `outAt` after the body. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem fetch_0 (t : Fin cfg0.N) : (cfg0.win (0 : Fin 3)).fetch t = true := by rw [fin_N t]; rfl
theorem fetch_1 (t : Fin cfg0.N) : (cfg0.win (1 : Fin 3)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's obligation -/

/-- The outgoing slots as the body finds them. -/
theorem slots_start (c : Dev nD) :
    iprop((bigSep Finset.univ fun k : Fin 12 => iprop(∃ f, outPts c k f)) ∗ (bigSep Finset.univ fun k : Fin 12 => dutyTok ER (sendCell c k) 0 false)
        ∗ (bigSep Finset.univ fun k : Fin 12 => dutyTok ER (recvCell (peer c k) k) 0 false) ∗ bigSep Finset.univ fun k : Fin 12 => atPos ER (sendCell c k) 0 ∅ 0)
      ⊢ (bigSep Finset.univ (slotSt m ρ c false [] [] sendOrder) : sProp 𝕄) := by
  have h : ∀ k : Fin 12, (iprop(iprop(∃ f, outPts c k f) ∗ dutyTok ER (sendCell c k) 0 false ∗ dutyTok ER (recvCell (peer c k) k) 0 false
      ∗ atPos ER (sendCell c k) 0 ∅ 0) : sProp 𝕄) ⊢ slotSt m ρ c false [] [] sendOrder k := fun k => by
    unfold slotSt
    rw [if_neg List.not_mem_nil, if_neg List.not_mem_nil, if_pos (by revert k; decide), if_neg Bool.false_ne_true]
    iintro ⟨H1, H2, H3, H4⟩
    iframe ∗
  rw [← bigSep_sep', ← bigSep_sep', ← bigSep_sep']
  exact bigSep_mono fun k _ => h k
/-- The arriving slots as the body finds them. -/
theorem ins_start (c : Dev nD) :
    iprop((bigSep Finset.univ fun k : Fin 12 => cred (tallyAt (recvCell c k) () N)) ∗ bigSep Finset.univ fun k : Fin 12 => atPos ER (recvCell c k) 0 ∅ 0)
      ⊢ (bigSep Finset.univ (inSt m ρ c []) : sProp 𝕄) := by
  rw [← bigSep_sep']
  exact Entails.of_eq (bigSep_congr fun k _ => by unfold inSt; rw [if_neg List.not_mem_nil])

/-- Outgoing slots whose completions were all waited for. -/
theorem slots_end (c : Dev nD) (st wt : List (Fin 12)) (h : ∀ k, k ∈ wt) : bigSep Finset.univ (slotSt m ρ c true st wt [])
    = iprop((bigSep Finset.univ fun k : Fin 12 => outPts c k (outsBuf m ρ c)) ∗ bigSep Finset.univ fun k : Fin 12 => semVal (sendCell c k) 0) := by
  rw [← bigSep_sep']
  exact bigSep_congr fun k _ => by unfold slotSt; rw [if_pos (h k)]
/-- Arriving slots that were all waited for. -/
theorem ins_end (c : Dev nD) (rv : List (Fin 12)) (h : ∀ k, k ∈ rv) : bigSep Finset.univ (inSt m ρ c rv)
    = iprop((bigSep Finset.univ fun k : Fin 12 => insPts c k (insBuf m ρ c)) ∗ bigSep Finset.univ fun k : Fin 12 => semVal (recvCell c k) 0) := by
  rw [← bigSep_sep']
  exact bigSep_congr fun k _ => by unfold inSt; rw [if_pos (h k)]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 10000 in
def bodyPre (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))
def bodyPost (c : Dev nD) : sProp 𝕄 :=
  iprop(Φ₁ m ρ c ∗ (dats m ρ 0 c).owesAt () t₀.succ ∗ stg c cc0_stg0_0 (xstg m ρ c) ∗ stg c cc0_stg1_0 (wstg m ρ c) ∗ stg c cc0_stg2_0 (outAt m ρ c))

/-- The holdings after the last wait are what the pipeline expects after the body. -/
theorem body_end (K : KeyOf) (c : Dev nD) (st wt rv : List (Fin 12)) (hw : ∀ k, k ∈ wt) (hr : ∀ k, k ∈ rv) (out : (cc0_stg2_0 : Ref sig .tc).ty.Contents (Elt F)) :
    Sx m ρ K c true st wt [] rv (out4 m ρ c out) ⊢ bodyPost m ρ c := by
  unfold Sx bodyPost winSt barSt Φ₁ Dat.owesAt Pipeline.owesWithin
  rw [if_pos rfl, slots_end m ρ c st wt hw, ins_end m ρ c rv hr, out4_eq]
  rw [show (dats m ρ 0 c).owed t₀.succ = 0 from rfl]
  iintro ⟨-, -, Hb, ⟨%W, Ho⟩, Hs, Hi, Hx, Hw, Hout⟩
  isplitl [Hb Hs Hi]
  · isplitl [Hb]; · iexact Hb
    isplitl [Hs] <;> iassumption
  isplitl [Ho]
  · iexists W
    isplitr; · ipureintro; exact fun _ _ => Or.inl trivial
    iexact Ho
  isplitl [Hx]
  · iexists _; isplitr; · (ipureintro; rfl)
    iexact Hx
  isplitl [Hw]
  · iexists _; isplitr; · (ipureintro; rfl)
    iexact Hw
  iexists _; isplitr; · (ipureintro; rfl)
  iexact Hout

/-- The body from what the pipeline hands it to what the pipeline expects. -/
theorem sound_body (c : Dev nD) :
    bodyPre m ρ c ⊢ WP c (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _) (Memref.whole cc0_scratch1) (Memref.isWhole_whole _)
      cc0_scratch2 cc0_scratch3) (fun _ => bodyPost m ρ c) := by
  unfold bodyPre Φ₀ start G' linear payToks
  iintro ⟨⟨⟨⟨%K, #HR, ⟨HaB, HaS, HaV⟩, HtX, HtY, HtS, HtV⟩, HcB, HcV, #HL⟩, Houts, Hins⟩, Ho, ⟨%d0, %g0, %hg0, Hx⟩, ⟨%d1, %g1, %hg1, Hw⟩, ⟨%d2, %g2, %hg2, Hout⟩⟩
  have hx : g0 = xstg m ρ c := by rw [hg0]; unfold Dat.before; rw [if_pos (fetch_0 t₀)]; rfl
  have hw : g1 = wstg m ρ c := by rw [hg1]; unfold Dat.before; rw [if_pos (fetch_1 t₀)]; rfl
  subst hx hw
  unfold Dat.owesAt Pipeline.owesWithin
  icases Ho with ⟨%W, %hW, HO⟩
  rw [show (dats m ρ 0 c).owed t₀.castSucc = O₀ c from rfl]
  iapply (body_run m ρ (K := K) (c := c) (out := g2) (body_end m ρ K c _ _ _ (by decide) (by decide) g2))
  unfold Sstart barSt winSt
  rw [if_neg Bool.false_ne_true]
  ihave Hs := (slots_start m ρ c) $$ [Houts HtS HtV HaS]
  · isplitl [Houts]; · iexact Houts
    isplitl [HtS]; · iexact HtS
    isplitl [HtV] <;> iassumption
  ihave Hi := (ins_start m ρ c) $$ [HcV HaV]
  · isplitl [HcV] <;> iassumption
  iframe # ∗
  iexists _; iexact HO

set_option maxRecDepth 10000 in
/-- The library's body obligation on device `c`. -/
theorem body_obligation (c : Dev nD) : BodyObligation (dats (F := F) m ρ 0 c) (defs₀ (F := F)) 𝒱₀ () Set.univ := fun t => by
  rw [fin_N t]
  rw [show ∀ Φ : Fin cfg0.W → sProp 𝕄, bigSep Finset.univ Φ = iprop(Φ (0 : Fin 3) ∗ Φ (1 : Fin 3) ∗ Φ (2 : Fin 3)) from fun Φ => bigSep_W0 Φ,
    show ∀ Φ : Fin cfg0.W → sProp 𝕄, bigSep Finset.univ Φ = iprop(Φ (0 : Fin 3) ∗ Φ (1 : Fin 3) ∗ Φ (2 : Fin 3)) from fun Φ => bigSep_W0 Φ]
  simp only [owns_whole_eq]
  exact sound_body m ρ c

/-! ## The launch -/

theorem ownSemFacts : Pipeline.OwnSemFacts cfg0.spec osem := by decide

theorem share_eq (c : Dev nD) (w : Fin cfg0.W) : (dats m ρ 0 c).share w = fullShare := by unfold Dat.share; split <;> rfl

/-- Different keys name different semaphores: their roles differ. -/
theorem csem_injective : Function.Injective csem := by
  have h : ∀ a b : Option (Bool × Fin 12), role (csem a) = role (csem b) → a = b := by
    have hs : ∀ bk : Bool × Fin 12, role (osem bk) = if bk.1 then .recv bk.2 else .send bk.2 := by
      rintro ⟨_ | _, k⟩
      · exact role_send k
      · exact role_recv k
    rintro (_ | ⟨b, k⟩) (_ | ⟨b', k'⟩) h
    · rfl
    · rw [show role (csem none) = .barrier from role_bar, show role (csem (some (b', k'))) = _ from hs (b', k')] at h
      cases b' <;> cases h
    · rw [show role (csem none) = .barrier from role_bar, show role (csem (some (b, k))) = _ from hs (b, k)] at h
      cases b <;> cases h
    · rw [show role (csem (some (b, k))) = _ from hs (b, k), show role (csem (some (b', k'))) = _ from hs (b', k')] at h
      cases b <;> cases b' <;> cases h <;> rfl
  exact fun a b e => h a b (congrArg role e)
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]
def protCells : Finset (GSem nD τ sig) := Finset.univ.map ⟨kcell, kcell_injective⟩

/-- The payment rights of a device's own semaphores: its barrier's two, and one of each send and receive semaphore. -/
abbrev tokOf (cj : Dev nD × (Bool ⊕ (Bool × Fin 12))) : GSem nD τ sig × ℕ × Bool := match cj.2 with
  | .inl d => (kcell (cj.1, none), 0, d) | .inr bk => (kcell (cj.1, some bk), 0, false)
theorem tokOf_injective : Function.Injective tokOf := by
  rintro ⟨c, _ | bk⟩ ⟨c', _ | bk'⟩ h
  · have h1 := kcell_injective (congrArg Prod.fst h)
    have h2 := congrArg (fun x : GSem nD τ sig × ℕ × Bool => x.2.2) h
    cases h1; cases h2; rfl
  · have h1 := kcell_injective (congrArg Prod.fst h); cases h1
  · have h1 := kcell_injective (congrArg Prod.fst h); cases h1
  · have h1 := kcell_injective (congrArg Prod.fst h); cases h1; rfl
def protToks : Finset (GSem nD τ sig × ℕ × Bool) := Finset.univ.map ⟨tokOf, tokOf_injective⟩

def u₀ : UU :=
  (initOf (Pipeline.cells cfgs cellOf_inj) (Pipeline.launchToks cfgs cellOf_inj), initOf protCells protToks)

/-- The payment rights of device `c`'s own semaphores. -/
def toks (c : Dev nD) : sProp 𝕄 :=
  iprop((dutyTok ER (barCell c) 0 true ∗ dutyTok ER (barCell c) 0 false)
    ∗ (bigSep Finset.univ fun k : Fin 12 => dutyTok ER (sendCell c k) 0 false) ∗ bigSep Finset.univ fun k : Fin 12 => dutyTok ER (recvCell c k) 0 false)

/-- What the launch deals device `c`. -/
def G (c : Dev nD) : sProp 𝕄 :=
  iprop((bigSep Finset.univ fun k : Option (Bool × Fin 12) => roundState ER (Rd m ρ) (kcell (c, k)) 0)
    ∗ (bigSep Finset.univ fun k : Option (Bool × Fin 12) => iprop(atPos ER (kcell (c, k)) 0 ∅ 0 ∗ reached ER (kcell (c, k)) 0)) ∗ toks c)

theorem fund_prot : BI.own (ER (initOf protCells protToks)) ⊢ (|==> bigSep Finset.univ (G m ρ) : sProp 𝕄) := by
  have hX (Φ : GSem nD τ sig → sProp 𝕄) : bigSep protCells Φ = bigSep Finset.univ fun c : Dev nD => bigSep Finset.univ fun k : Option (Bool × Fin 12) => Φ (kcell (c, k)) := by
    unfold protCells; rw [bigSep_map, bigSep_univ_prod]; rfl
  have hT : bigSep protToks (fun x => (dutyTok ER x.1 x.2.1 x.2.2 : sProp 𝕄)) = bigSep Finset.univ fun c : Dev nD => toks c := by
    unfold protToks; rw [bigSep_map, bigSep_univ_prod]
    exact bigSep_congr fun c _ => by unfold toks; rw [bigSep_sum_keys]; rfl
  iintro HX
  imod (Rounds.fund ER (Rd m ρ) protCells protToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun k : Fin 12 => semVal (sendCell c k) 0) ∗ bigSep Finset.univ fun k : Fin 12 => semVal (recvCell c k) 0) := by
  unfold Pipeline.ownSems0; rw [bigSep_bool_fin]
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- All the counters of the protocol, at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Option (Bool × Fin 12) => semVal (kcell (c, k)) 0 : sProp 𝕄) := by
  rw [ownSems0_eq, unscopedSems0_eq, bigSep_option]
  iintro ⟨⟨HS, HV⟩, HB⟩
  isplitl [HB]; · iexact HB
  isplitl [HS] <;> iassumption

/-- One device's invariants allocated. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Option (Bool × Fin 12) => iprop(∃ κ : ℕ, cellInv ER (Rd m ρ) κ (kcell (c, k))))
          ∗ (bigSep Finset.univ fun k : Option (Bool × Fin 12) => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Option (Bool × Fin 12) => semVal (kcell (c, k)) 0)
        ∗ bigSep Finset.univ fun k : Option (Bool × Fin 12) => roundState ER (Rd m ρ) (kcell (c, k)) 0)
      ⊢ (|={Set.univ}=> bigSep Finset.univ fun k : Option (Bool × Fin 12) => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- The payment rights dealt to the payers: a barrier's to the two neighbours, a receive semaphore's to the partner. -/
theorem toks_around : (bigSep Finset.univ fun c : Dev nD => (toks c : sProp 𝕄)) ⊢ bigSep Finset.univ fun c : Dev nD => payToks c := by
  have hr : (bigSep Finset.univ fun c : Dev nD => bigSep Finset.univ fun k : Fin 12 => (dutyTok ER (recvCell c k) 0 false : sProp 𝕄))
      = bigSep Finset.univ fun c : Dev nD => bigSep Finset.univ fun k : Fin 12 => dutyTok ER (recvCell (peer c k) k) 0 false := by
    rw [bigSep_univ_comm, bigSep_univ_comm (fun (c : Dev nD) (k : Fin 12) => (dutyTok ER (recvCell (peer c k) k) 0 false : sProp 𝕄))]
    exact bigSep_congr fun k _ => bigSep_univ_equiv (peerE k) (fun c : Dev nD => (dutyTok ER (recvCell c k) 0 false : sProp 𝕄))
  unfold toks payToks
  rw [bigSep_sep', bigSep_sep', bigSep_sep', bigSep_sep', bigSep_sep', bigSep_sep', hr,
    bigSep_univ_equiv xpE (fun c : Dev nD => (dutyTok ER (barCell c) 0 true : sProp 𝕄)),
    bigSep_univ_equiv ypE (fun c : Dev nD => (dutyTok ER (barCell c) 0 false : sProp 𝕄))]
  iintro ⟨⟨H1, H2⟩, H3, H4⟩
  isplitl [H1]; · iexact H1
  isplitl [H2]; · iexact H2
  isplitl [H3] <;> iassumption

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem share_records (K : KeyOf) (c : Dev nD) : iprop(records m ρ K ∗ linear c) ⊢ G' m ρ c := by
  unfold G'; iintro H; iexists K; iexact H

/-- Every device's invariants gathered under one family of names, which every device then knows. -/
theorem regroup :
    (bigSep Finset.univ fun c : Dev nD => iprop((bigSep Finset.univ fun k : Option (Bool × Fin 12) => iprop(∃ κ : ℕ, cellInv ER (Rd m ρ) κ (kcell (c, k))))
          ∗ (bigSep Finset.univ fun k : Option (Bool × Fin 12) => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Option (Bool × Fin 12) => iprop(∃ κ : ℕ, cellInv ER (Rd m ρ) κ (kcell ck))),
    bigSep_congr (s := Finset.univ) (fun (c : Dev nD) _ => bigSep_sep' Finset.univ (fun k : Option (Bool × Fin 12) => (atPos ER (kcell (c, k)) 0 ∅ 0 : sProp 𝕄)) (fun k => reached ER (kcell (c, k)) 0)),
    bigSep_sep', ← bigSep_univ_prod (fun ck : Dev nD × Option (Bool × Fin 12) => (reached ER (kcell ck) 0 : sProp 𝕄))]
  iintro ⟨HI, ⟨Hat, #HR⟩, Htok⟩
  ihave HK := (BI.bigSep_exists_pi Finset.univ (fun (ck : Dev nD × Option (Bool × Fin 12)) (κ : ℕ) => (cellInv ER (Rd m ρ) κ (kcell ck) : sProp 𝕄))) $$ HI
  icases HK with ⟨%K, #HI⟩
  ihave Htk := (toks_around (F := F)) $$ Htok
  iapply (bigSep_with_persistent (R := records m ρ K) fun c _ => share_records m ρ K c)
  isplitr
  · unfold records; isplitl; · iexact HI
    iexact HR
  · iapply ((Entails.of_eq (bigSep_sep' Finset.univ (fun c : Dev nD => bigSep Finset.univ fun k : Option (Bool × Fin 12) => (atPos ER (kcell (c, k)) 0 ∅ 0 : sProp 𝕄)) payToks).symm).trans
      (bigSep_mono fun c _ => show _ ⊢ linear c from Entails.of_eq (by unfold linear; rw [bigSep_option])))
    isplitl [Hat]; · iexact Hat
    iexact Htk

/-- All devices' semaphores become the protocol's invariants. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

theorem bar_eq {a b : Dev nD} (h : barCell a = barCell b) : a = b := by
  have := kcell_injective (a₁ := (a, none)) (a₂ := (b, none)) h; cases this; rfl
theorem recv_eq {a b : Dev nD} {k j : Fin 12} (h : recvCell a k = recvCell b j) : a = b ∧ k = j := by
  have := kcell_injective (a₁ := (a, some (true, k))) (a₂ := (b, some (true, j))) h; cases this; exact ⟨rfl, rfl⟩
theorem recv_ne_bar (a b : Dev nD) (k : Fin 12) : recvCell a k ≠ barCell b := fun h => by
  have := kcell_injective (a₁ := (a, some (true, k))) (a₂ := (b, none)) h; cases this

/-- The transfers owe nothing to a barrier; -/
theorem owL_bar (d c : Dev nD) (l : List (Fin 12)) : owL d l (barCell c) () = 0 :=
  Nat.eq_zero_of_not_pos fun h => by obtain ⟨k, -, e⟩ := owL_pos h; exact recv_ne_bar _ _ _ e.symm
/-- and a block's credit to the partner's receive semaphore of every slot still to be sent. -/
theorem owL_recv (d c : Dev nD) (k : Fin 12) (l : List (Fin 12)) (hl : l.Nodup) :
    owL d l (recvCell c k) () = if k ∈ l ∧ d = peer c k then N else 0 := by
  induction l with
  | nil => rw [if_neg fun h => absurd h.1 List.not_mem_nil]; rfl
  | cons j l ih =>
    rw [List.nodup_cons] at hl
    unfold owL
    rw [Pi.add_apply, Finsupp.add_apply, ih hl.2, tallyAt_apply]
    by_cases hj : j = k
    · subst hj
      rw [if_neg fun h => hl.1 h.1, Nat.zero_add]
      by_cases hd : d = peer c j
      · subst hd; rw [peer_peer, if_pos ⟨rfl, rfl⟩, if_pos ⟨List.mem_cons_self, rfl⟩]
      · rw [if_neg fun h => hd (by rw [(recv_eq h.1).1, peer_peer]), if_neg fun h => hd h.2]
    · rw [if_neg (c := recvCell c k = recvCell (peer d j) j ∧ () = ()) fun h => hj (recv_eq h.1).2.symm, Nat.add_zero]
      by_cases hk : k ∈ l
      · by_cases hd : d = peer c k
        · rw [if_pos ⟨hk, hd⟩, if_pos ⟨List.mem_cons_of_mem _ hk, hd⟩]
        · rw [if_neg fun h => hd h.2, if_neg fun h => hd h.2]
      · rw [if_neg fun h => hk h.1, if_neg fun h => (List.mem_cons.mp h.1).elim (fun e => hj e.symm) hk]

/-- What device `d` owes device `c`'s barrier: a unit if it is a neighbour. -/
theorem owed_bar (d c : Dev nD) : O₀ d (barCell c) () = (if d = yp c then 1 else 0) + (if d = xp c then 1 else 0) := by
  unfold O₀ O₁
  rw [Pi.add_apply, Finsupp.add_apply, Pi.add_apply, Finsupp.add_apply, owL_bar, Nat.zero_add, tallyAt_apply, tallyAt_apply]
  congr 1
  · by_cases h : d = yp c
    · subst h; rw [yp_yp, if_pos ⟨rfl, rfl⟩, if_pos rfl]
    · rw [if_neg fun h' => h (by rw [bar_eq h'.1, yp_yp]), if_neg h]
  · by_cases h : d = xp c
    · subst h; rw [xp_xp, if_pos ⟨rfl, rfl⟩, if_pos rfl]
    · rw [if_neg fun h' => h (by rw [bar_eq h'.1, xp_xp]), if_neg h]
/-- What device `d` owes device `c`'s receive semaphore of slot `k`: a block's credit if it is the slot's partner. -/
theorem owed_recv (d c : Dev nD) (k : Fin 12) : O₀ d (recvCell c k) () = if d = peer c k then N else 0 := by
  unfold O₀ O₁
  rw [Pi.add_apply, Finsupp.add_apply, Pi.add_apply, Finsupp.add_apply, owL_recv d c k _ (by decide), tallyAt_ne_cell (recv_ne_bar _ _ _),
    tallyAt_ne_cell (recv_ne_bar _ _ _), Finsupp.zero_apply, Nat.add_zero, Nat.add_zero]
  have hk : k ∈ sendOrder := by revert k; decide
  by_cases h : d = peer c k
  · rw [if_pos ⟨hk, h⟩, if_pos h]
  · rw [if_neg fun h' => h h'.2, if_neg h]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (yp c) fun _ => 1, Finset.sum_ite_eq' Finset.univ (xp c) fun _ => 1, if_pos (Finset.mem_univ _), if_pos (Finset.mem_univ _)]
theorem launch_recv (c : Dev nD) (k : Fin 12) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k, Finset.sum_ite_eq' Finset.univ (peer c k) fun _ => N,
    if_pos (Finset.mem_univ _)]

theorem recvS_injective : Function.Injective fun k : Fin 12 => (SemLoc.dma (recvS k) : SemLoc sig) := fun a b h => by
  have := csem_injective (a₁ := some (true, a)) (a₂ := some (true, b)) h; cases this; rfl

omit [FloatOps F] in
/-- The credit the launch hands device `c`: two units for its barrier, a block's for each arrival. -/
theorem creds (c : Dev nD) :
    (Pipeline.launchCred O₀ c : sProp 𝕄) ⊢ iprop(cred (tallyAt (barCell c) () 2) ∗ bigSep Finset.univ fun k : Fin 12 => cred (tallyAt (recvCell c k) () N)) := by
  unfold Pipeline.launchCred
  rw [bigSep_univ_at _ (SemLoc.reg barS), launch_bar]
  refine sep_mono_right ?_
  refine (bigSep_subset (t := Finset.univ.map ⟨fun k : Fin 12 => (SemLoc.dma (recvS k) : SemLoc sig), recvS_injective⟩) fun sm h => ?_).trans ?_
  · obtain ⟨k, -, rfl⟩ := Finset.mem_map.mp h
    exact Finset.mem_erase.mpr ⟨fun e : SemLoc.dma (recvS k) = SemLoc.reg barS => (nomatch e), Finset.mem_univ _⟩
  · rw [bigSep_map]
    exact Entails.of_eq (bigSep_congr fun k _ => by rw [← launch_recv]; rfl)

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Ho⟩, ⟨%g, Hi⟩⟩
  isplitl [Hs]; · iexact Hs
  isplitl [Ho]
  · iapply ((Entails.of_eq (outs_slots c f)).trans (outs_some c f)); iexact Ho
  · iapply ((Entails.of_eq (ins_slots c g)).trans (ins_some c g)); iexact Hi

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁
  iintro ⟨HzB, ⟨Ho, HzS⟩, Hi, HzV⟩
  isplitl [HzB]; · iexact HzB
  isplitl [HzS HzV]
  · isplitl [HzS] <;> iassumption
  isplitl [Ho]
  · iexists outsBuf m ρ c; iapply (Entails.of_eq (outs_slots c (outsBuf m ρ c)).symm); iexact Ho
  · iexists insBuf m ρ c; iapply (Entails.of_eq (ins_slots c (insBuf m ρ c)).symm); iexact Hi

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

/-- What the run leaves in window `w`'s array on device `c`. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with all counters at zero every weakly fair execution of @main ends, with every window's array at
    `finalA` on every device and every counter at zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_prot m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The left operand's array after the run holds what it held; -/
theorem finalA_x (c : Dev nD) : finalA m ρ c (0 : Fin 3) = (s₀ m ρ).mem (win0_0.arr.view.loc (c : Thread nD τ)) :=
  (dats (F := F) m ρ 0 c).arrAt_in (0 : Fin 3) rfl _
/-- so does the right operand's. -/
theorem finalA_w (c : Dev nD) : finalA m ρ c (1 : Fin 3) = (s₀ m ρ).mem (win0_1.arr.view.loc (c : Thread nD τ)) :=
  (dats (F := F) m ρ 0 c).arrAt_in (1 : Fin 3) rfl _

end Cert.KernelIdealProof

end
-- ==== Proof.KernelIdeal.Value.lean ====
/-
The values: over the ideal floats every device's result is its block of rows of the reference's result. A block product a
device computes or passes on is the part of the whole product that comes from 256 of the contracted coordinates; a result
adds four of them, one from each device.
-/
module

public import proofs.«01_k».proof.Proof.KernelIdeal.Launch
public import proofs.«01_k».proof.Proof.Gen.ReferenceIdeal
public import Idealize.ShloMosaic.Lib.Pointwise
public import Idealize.ShloMosaic.Lib.Layout
public import Idealize.ShloMosaic.Lib.Pipeline.ValueKit.Geometry
public import Idealize.ShloMosaic.PureOps.Ideal

@[expose] public section

noncomputable section

namespace Cert.KernelIdealProof

open Cert.KernelIdeal Cert.KernelIdeal.Gen
open Idealize.ShloMosaic
open Idealize.ShloMosaic.TcCoe
open Idealize.ShloMosaic.Pipeline (Dat Cfg Window)
open scoped BigOperators

/-! ## The result array -/

section Final
variable {F : FTy → Type} [FloatOps F]
variable (m : (ℓ : Loc nD τ sig) → Buf (Elt F) ℓ) (ρ : Dev nD → PrngReg)

/-- The result's array after the run holds what the body left in its staging buffer. -/
theorem finalA_o (c : Dev nD) : finalA m ρ c (2 : Fin 3) = outAt m ρ c :=
  (dats m ρ 0 c).arrAt_eq_of_after_last (2 : Fin 3) t₀ (by decide +kernel) (outAt m ρ c) fun j => rfl

/-- The left operand's staging buffer holds the whole array; -/
theorem xstg_eq (c : Dev nD) : xstg m ρ c = m ((c : Thread nD τ).loc main_arg0) := by
  funext i
  refine congrArg (m ((c : Thread nD τ).loc main_arg0)) (funext fun a => Fin.ext ?_)
  exact win0_0.rect_emb_val_of_index_zero (0 : Fin 1) a (by revert a; decide) i
/-- so does the right operand's. -/
theorem wstg_eq (c : Dev nD) : wstg m ρ c = m ((c : Thread nD τ).loc main_arg1) := by
  funext i
  refine congrArg (m ((c : Thread nD τ).loc main_arg1)) (funext fun a => Fin.ext ?_)
  exact win0_1.rect_emb_val_of_index_zero (0 : Fin 1) a (by revert a; decide) i

/-- An element of a 256-row part of the left operand; -/
theorem xAt_apply (c : Dev nD) (d : Fin 4) (off : Fin 2 → ℕ) (h : ∀ a, off a + S256x256.size a ≤ S1024x256.size a) (ho : off = ![256 * d.val, 0]) (r k : Fin 256) :
    xAt m ρ c off h (ix2 r k) = m ((c : Thread nD τ).loc main_arg0) (ix2 (⟨256 * d.val + r.val, by omega⟩ : Fin 1024) k) := by
  subst ho
  unfold xAt; rw [xstg_eq]
  refine congrArg (m ((c : Thread nD τ).loc main_arg0)) (funext fun a => ?_)
  fin_cases a
  · exact Fin.ext (show 256 * d.val + 1 * r.val = 256 * d.val + r.val by omega)
  · exact Fin.ext (show 0 + 1 * k.val = k.val by omega)
/-- an element of a 256-column part of the right operand. -/
theorem wAt_apply (c : Dev nD) (q : Fin 4) (h : ∀ a, (![0, 256 * q.val] : Fin 2 → ℕ) a + S256x256.size a ≤ S256x1024.size a) (k l : Fin 256) :
    wAt m ρ c ![0, 256 * q.val] h (ix2 k l) = m ((c : Thread nD τ).loc main_arg1) (ix2 k (⟨256 * q.val + l.val, by omega⟩ : Fin 1024)) := by
  unfold wAt; rw [wstg_eq]
  refine congrArg (m ((c : Thread nD τ).loc main_arg1)) (funext fun a => ?_)
  fin_cases a
  · exact Fin.ext (show 0 + 1 * k.val = k.val by omega)
  · exact Fin.ext (show 256 * q.val + 1 * l.val = 256 * q.val + l.val by omega)
end Final

/-! ## The payloads at an index -/

/-- Row `r` of `a` times column `l` of `b`. -/
def dotAt (a b : FVec Ideal S256x256 .bf16) (r l : Fin 256) : EReal := ∑ k : Fin 256, a (ix2 r k) * b (ix2 k l)

theorem pay1_apply (a b : FVec Ideal S256x256 .bf16) (r l : Fin 256) : k0_pay1 (F := Ideal) a b (ix3 0 r l) = dotAt a b r l := by
  pointwise [k0_pay1, dotAt]
theorem pay12_apply (a b : FVec Ideal S256x256 .bf16) (r l : Fin 256) : k0_pay12 (F := Ideal) a b (ix2 r l) = dotAt a b r l := by
  pointwise [k0_pay12, dotAt]
theorem pay16_apply (v : FVec Ideal S256x256 .f32) (u : FVec Ideal S1x256x256 .bf16) (r l : Fin 256) :
    k0_pay16 v u (ix3 0 r l) = u (ix3 0 r l) + v (ix2 r l) := by
  pointwise [k0_pay16]
theorem pay21_apply (v : FVec Ideal S256x256 .f32) (u : FVec Ideal S1x256x256 .bf16) (r l : Fin 256) :
    k0_pay21 v u (ix2 r l) = v (ix2 r l) + u (ix3 0 r l) := by
  pointwise [k0_pay21]
theorem pay26_apply (v : FVec Ideal S256x256 .f32) (u : FVec Ideal S1x256x256 .bf16) (r l : Fin 256) :
    k0_pay26 v u (ix2 r l) = max (v (ix2 r l) + u (ix3 0 r l)) 0 := by
  pointwise [k0_pay26]

/-- A result: the own product, a block that came directly, a block that came with another added on the way. -/
theorem result_apply (a b a₁ b₁ a₂ b₂ a₃ b₃ : FVec Ideal S256x256 .bf16) (r l : Fin 256) :
    k0_pay26 (F := Ideal) (k0_pay21 (F := Ideal) (k0_pay12 (F := Ideal) a b) (k0_pay1 (F := Ideal) a₁ b₁)) (k0_pay16 (F := Ideal) (k0_pay12 (F := Ideal) a₂ b₂) (k0_pay1 (F := Ideal) a₃ b₃)) (ix2 r l)
      = max (dotAt a b r l + dotAt a₁ b₁ r l + (dotAt a₃ b₃ r l + dotAt a₂ b₂ r l)) 0 := by
  rw [pay26_apply, pay21_apply, pay16_apply, pay12_apply, pay12_apply, pay1_apply, pay1_apply]

/-! ## The parts of the product -/

/-- Coordinate `r` of the `d`th of four blocks of 256. -/
def row (d : Fin 4) (r : Fin 256) : Fin 1024 := ⟨256 * d.val + r.val, by omega⟩

/-- The part of element (`row d r`, `row q l`) of `A · B` that comes from block `s` of the contracted coordinates. -/
def part (A B : (⟨2, ![1024, 1024]⟩ : Shape).Idx → EReal) (s d q : Fin 4) (r l : Fin 256) : EReal :=
  ∑ k : Fin 256, A (ix2 (row d r) (row s k)) * B (ix2 (row s k) (row q l))

/-- A sum over the contracted coordinates, block by block. -/
theorem sum_split (f : Fin 1024 → EReal) : ∑ s : Fin 4, ∑ k : Fin 256, f (row s k) = ∑ n : Fin 1024, f n := by
  rw [← Fintype.sum_prod_type' (f := fun s k => f (row s k))]
  exact Fintype.sum_equiv (finProdFinEquiv (m := 4) (n := 256)) _ _ fun x => congrArg f (Fin.ext (Nat.add_comm _ _))

/-- Four different devices are all of them. -/
theorem sum_four (f : Fin 4 → EReal) (a b c d : Fin 4) (h : [a, b, c, d].Nodup) : f a + f b + (f c + f d) = ∑ s, f s := by
  have hu : ∀ a b c d : Fin 4, [a, b, c, d].Nodup → (Finset.univ : Finset (Fin 4)) = {a, b, c, d} := by decide
  rw [hu a b c d h]
  simp only [List.nodup_cons, List.mem_cons, List.not_mem_nil, or_false, not_or] at h
  rw [Finset.sum_insert (by simp [h]), Finset.sum_insert (by simp [h]), Finset.sum_insert (by simp [h]), Finset.sum_singleton, add_assoc]

section Ideal
variable (m : (ℓ : Loc nD τ sig) → Buf (Elt Ideal) ℓ) (ρ : Dev nD → PrngReg)
variable (A B : (⟨2, ![1024, 1024]⟩ : Shape).Idx → EReal)

/-- The devices' operands are the blocks of `A`'s columns and of `B`'s rows. -/
def Split : Prop := ∀ c : Dev nD, m ((c : Thread nD τ).loc main_arg0) = Layout.block ⟨2, ![1024, 256]⟩ ⟨2, ![1024, 1024]⟩ 1 4 c A
  ∧ m ((c : Thread nD τ).loc main_arg1) = Layout.block ⟨2, ![256, 1024]⟩ ⟨2, ![1024, 1024]⟩ 0 4 c B

variable {m A B} (hs : Split m A B)
include hs

/-- A block product on device `c` is its part of the whole product. -/
theorem dot_part (c d q : Fin 4) (off : Fin 2 → ℕ) (h : ∀ a, off a + S256x256.size a ≤ S1024x256.size a) (ho : off = ![256 * d.val, 0])
    (h' : ∀ a, (![0, 256 * q.val] : Fin 2 → ℕ) a + S256x256.size a ≤ S256x1024.size a) (r l : Fin 256) :
    dotAt (xAt m ρ c off h) (wAt m ρ c ![0, 256 * q.val] h') r l = part A B c d q r l := by
  unfold dotAt part
  refine Finset.sum_congr rfl fun k _ => ?_
  rw [xAt_apply m ρ c d off h ho, wAt_apply, (hs c).1, (hs c).2]
  refine congrArg₂ _ (congrArg A (funext fun a => ?_)) (congrArg B (funext fun a => ?_))
  · fin_cases a
    · rfl
    · exact Fin.ext (show c.val * 256 + k.val = 256 * c.val + k.val by omega)
  · fin_cases a
    · exact Fin.ext (show c.val * 256 + k.val = 256 * c.val + k.val by omega)
    · rfl

omit hs in
theorem off1_at (c : Dev nD) : k0_off1 c = ![256 * (xp (yp c)).val, 0] := by revert c; decide +kernel
omit hs in
theorem off2_at (c : Dev nD) : k0_off2 c = ![256 * (xp c).val, 0] := by revert c; decide +kernel
omit hs in
theorem off3_at (c : Dev nD) : k0_off3 c = ![256 * (yp c).val, 0] := by revert c; decide +kernel
omit hs in
theorem off4_at (c : Dev nD) : k0_off4 c = ![256 * c.val, 0] := by revert c; decide +kernel

/-- The four products on device `c` with column quarter `q`: each is the part for the device it is meant for. -/
theorem prods (c q : Fin 4) (h' : ∀ a, (![0, 256 * q.val] : Fin 2 → ℕ) a + S256x256.size a ≤ S256x1024.size a) (r l : Fin 256) :
    dotAt (xd m ρ c) (wAt m ρ c ![0, 256 * q.val] h') r l = part A B c (xp (yp c)) q r l
    ∧ dotAt (xx m ρ c) (wAt m ρ c ![0, 256 * q.val] h') r l = part A B c (xp c) q r l
    ∧ dotAt (xy m ρ c) (wAt m ρ c ![0, 256 * q.val] h') r l = part A B c (yp c) q r l
    ∧ dotAt (xm m ρ c) (wAt m ρ c ![0, 256 * q.val] h') r l = part A B c c q r l :=
  ⟨dot_part ρ hs c _ q _ _ (off1_at c) h' r l, dot_part ρ hs c _ q _ _ (off2_at c) h' r l, dot_part ρ hs c _ q _ _ (off3_at c) h' r l,
    dot_part ρ hs c _ q _ _ (off4_at c) h' r l⟩

/-- A quarter whose far block travels along the first axis and then the second. -/
theorem quarter_xy (c q : Fin 4) (h' : ∀ a, (![0, 256 * q.val] : Fin 2 → ℕ) a + S256x256.size a ≤ S256x1024.size a) (r l : Fin 256) :
    k0_pay26 (F := Ideal) (k0_pay21 (k0_pay12 (xm m ρ c) (wAt m ρ c ![0, 256 * q.val] h')) (k0_pay1 (xx m ρ (xp c)) (wAt m ρ (xp c) ![0, 256 * q.val] h')))
        (k0_pay16 (k0_pay12 (xy m ρ (yp c)) (wAt m ρ (yp c) ![0, 256 * q.val] h'))
          (k0_pay1 (xd m ρ (xp (yp c))) (wAt m ρ (xp (yp c)) ![0, 256 * q.val] h'))) (ix2 r l)
      = max (∑ s : Fin 4, part A B s c q r l) 0 := by
  rw [result_apply, (prods ρ hs c q h' r l).2.2.2, (prods ρ hs (xp c) q h' r l).2.1, (prods ρ hs (yp c) q h' r l).2.2.1, (prods ρ hs (xp (yp c)) q h' r l).1,
    xp_xp, yp_yp, show xp (yp (xp (yp c))) = c by revert c; decide]
  exact congrArg (max · 0) (sum_four (fun s => part A B s c q r l) c (xp c) (xp (yp c)) (yp c) (by clear * -; revert c; decide))

/-- A quarter whose far block travels along the second axis and then the first. -/
theorem quarter_yx (c q : Fin 4) (h' : ∀ a, (![0, 256 * q.val] : Fin 2 → ℕ) a + S256x256.size a ≤ S256x1024.size a) (r l : Fin 256) :
    k0_pay26 (F := Ideal) (k0_pay21 (k0_pay12 (xm m ρ c) (wAt m ρ c ![0, 256 * q.val] h')) (k0_pay1 (xy m ρ (yp c)) (wAt m ρ (yp c) ![0, 256 * q.val] h')))
        (k0_pay16 (k0_pay12 (xx m ρ (xp c)) (wAt m ρ (xp c) ![0, 256 * q.val] h'))
          (k0_pay1 (xd m ρ (yp (xp c))) (wAt m ρ (yp (xp c)) ![0, 256 * q.val] h'))) (ix2 r l)
      = max (∑ s : Fin 4, part A B s c q r l) 0 := by
  rw [result_apply, (prods ρ hs c q h' r l).2.2.2, (prods ρ hs (xp c) q h' r l).2.1, (prods ρ hs (yp c) q h' r l).2.2.1, (prods ρ hs (yp (xp c)) q h' r l).1,
    xp_xp, yp_yp, yp_yp, xp_xp]
  exact congrArg (max · 0) (sum_four (fun s => part A B s c q r l) c (yp c) (yp (xp c)) (xp c) (by clear * -; revert c; decide))

/-- An element of a device's result, from `A` and `B`. -/
theorem outAt_apply (c : Fin 4) (r : Fin 256) (n : Fin 1024) :
    outAt m ρ c (ix2 r n) = max (∑ k : Fin 1024, A (ix2 (row c r) k) * B (ix2 k n)) 0 := by
  have hn := n.isLt
  let l : Fin 256 := ⟨n.val % 256, Nat.mod_lt _ (by decide)⟩
  have hout : outAt m ρ c (ix2 r n) = if n.val < 256 then res0 m ρ c (ix2 r l) else if n.val < 512 then res1 m ρ c (ix2 r l)
      else if n.val < 768 then res2 m ρ c (ix2 r l) else res3 m ρ c (ix2 r l) := by
    unfold outAt
    rw [show colIdx (ix2 r n : S256x1024.Idx) = ix2 r l from funext fun a => by fin_cases a <;> rfl]
    rfl
  have hsum : ∀ q : Fin 4, row q l = n → max (∑ s : Fin 4, part A B s c q r l) 0 = max (∑ k : Fin 1024, A (ix2 (row c r) k) * B (ix2 k n)) 0 := fun q hq => by
    unfold part
    rw [hq, sum_split fun k => A (ix2 (row c r) k) * B (ix2 k n)]
  rw [hout]
  split
  · exact (quarter_xy ρ hs c 0 (by decide) r l).trans (hsum 0 (Fin.ext (show 256 * 0 + n.val % 256 = n.val by omega)))
  split
  · exact (quarter_xy ρ hs c 1 (by decide) r l).trans (hsum 1 (Fin.ext (show 256 * 1 + n.val % 256 = n.val by omega)))
  split
  · exact (quarter_yx ρ hs c 2 (by decide) r l).trans (hsum 2 (Fin.ext (show 256 * 2 + n.val % 256 = n.val by omega)))
  · exact (quarter_yx ρ hs c 3 (by decide) r l).trans (hsum 3 (Fin.ext (show 256 * 3 + n.val % 256 = n.val by omega)))
end Ideal

/-- The reference's result from its two arguments. -/
def refOut (A B : FVec Ideal ⟨2, ![1024, 1024]⟩ .bf16) : FVec Ideal ⟨2, ![1024, 1024]⟩ .f32 :=
  maximumf (extf .f32 (truncf .bf16 (Host.dotGeneral Cert.ReferenceIdeal.dot_S1024x1024_S1024x1024_S1024x1024_1_0_0_1_n_n none A B)
    Cert.ReferenceIdeal.Gen.bitsLt_bf16_f32) Cert.ReferenceIdeal.Gen.bitsLt_bf16_f32)
    (broadcastInDim Cert.ReferenceIdeal.S1024x1024 ![] Cert.ReferenceIdeal.Gen.bcast_S_S1024x1024 (constant Cert.ReferenceIdeal.S_ .f32 0x00000000#32))

/-- An element of it. -/
theorem refOut_apply (A B : FVec Ideal ⟨2, ![1024, 1024]⟩ .bf16) (i n : Fin 1024) :
    refOut A B (ix2 i n) = max (∑ k : Fin 1024, A (ix2 i k) * B (ix2 k n)) 0 := by
  pointwise [refOut]

/-- Every device's result is its block of rows of the reference's. -/
theorem value {m : (ℓ : Loc nD τ sig) → Buf (Elt Ideal) ℓ} (ρ : Dev nD → PrngReg) {A B : FVec Ideal ⟨2, ![1024, 1024]⟩ .bf16} (hs : Split m A B) (c : Dev nD) :
    finalA m ρ c (2 : Fin 3) = Layout.block ⟨2, ![256, 1024]⟩ ⟨2, ![1024, 1024]⟩ 0 4 c (refOut A B) := by
  rw [finalA_o]
  funext i
  rw [Layout.block_apply, show i = ix2 (i (0 : Fin 2)) (i (1 : Fin 2)) from eq_ix2 i]
  refine (outAt_apply ρ hs c _ _).trans ((refOut_apply A B (row c (i (0 : Fin 2))) (i (1 : Fin 2))).symm.trans (congrArg (refOut A B) (funext fun a => ?_)))
  fin_cases a
  · exact Fin.ext (show 256 * c.val + (i (0 : Fin 2)).val = c.val * 256 + (i (0 : Fin 2)).val by omega)
  · rfl

end Cert.KernelIdealProof

end
-- ==== Proof.lean ====
/-
The proof of `Cert.Claim` for the matrix product cut over four devices with a relu: the three programs run and leave their
arguments and counters as they were, the idealization rewrites nothing, and over the ideal floats each device's result is
its block of rows of the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Value
public import Idealize.ShloMosaic.Adequacy
public import Idealize.ShloMosaic.Init

@[expose] public section

noncomputable section

namespace Cert.Proof

open Idealize.ShloMosaic Idealize.SL.Sem
open Idealize.ShloMosaic.TcCoe

/-- The kernel at the bit-exact floats: it ends, its operands unchanged and every counter at zero. -/
theorem frame_kernel : Cert.quiescent_Kernel := fun m ρ _ =>
  (θ_run Cert.Kernel.defs _ _).mono (fun _ h =>
      ⟨fun c => ⟨(h.1 c (0 : Fin 3)).trans (Cert.KernelProof.finalA_x m ρ c), (h.1 c (1 : Fin 3)).trans (Cert.KernelProof.finalA_w m ρ c)⟩, h.2⟩)
    (Cert.KernelProof.run_main (F := Bits) m ρ)

/-- The same of the kernel at the ideal floats. -/
theorem frame_kernelIdeal : Cert.quiescent_KernelIdeal := fun m ρ _ =>
  (θ_run Cert.KernelIdeal.defs _ _).mono (fun _ h =>
      ⟨fun c => ⟨(h.1 c (0 : Fin 3)).trans (Cert.KernelIdealProof.finalA_x m ρ c), (h.1 c (1 : Fin 3)).trans (Cert.KernelIdealProof.finalA_w m ρ c)⟩, h.2⟩)
    (Cert.KernelIdealProof.run_main (F := Ideal) m ρ)

/-- The reference ends with its arguments unchanged; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The idealization is the kernel's own text. -/
theorem preserves : Cert.preserves_Kernel_KernelIdeal := trivial

/-- From operands that are blocks of the reference's arguments every device's result is its block of rows of the
    reference's result, and all arguments end unchanged. -/
theorem algebraic : Cert.algebraic_KernelIdeal_ReferenceIdeal := by
  intro m ρ m' ρ' _ hs
  refine ⟨Cert.KernelIdealProof.refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono (fun _ h c =>
        ⟨(h.1 c (2 : Fin 3)).trans (Cert.KernelIdealProof.value ρ hs c), (h.1 c (0 : Fin 3)).trans (Cert.KernelIdealProof.finalA_x m ρ c),
          (h.1 c (1 : Fin 3)).trans (Cert.KernelIdealProof.finalA_w m ρ c)⟩)
      (Cert.KernelIdealProof.run_main (F := Ideal) m ρ)
  · exact (θ_run Cert.ReferenceIdeal.defs _ _).mono (fun _ h => h 0) (Cert.ReferenceIdeal.Value.run (F := Ideal) m' ρ')

theorem claim : Cert.Claim := ⟨Cert.Kernel.Gen.facts, Cert.KernelIdeal.Gen.facts, Cert.ReferenceIdeal.Gen.facts,
  frame_kernel, frame_kernelIdeal, frame_reference, preserves, algebraic⟩

end Cert.Proof

end
